-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v218) = v0 c
          ∧ r.2.mem ((c.tc : Thread Cert.ReferenceIdeal.nD Cert.ReferenceIdeal.τ).loc Cert.ReferenceIdeal.main_v229) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4096x4096 : Shape := ⟨2, ![4096, 4096]⟩
abbrev S4096x384 : Shape := ⟨2, ![4096, 384]⟩
abbrev S4096x64 : Shape := ⟨2, ![4096, 64]⟩
abbrev S64 : Shape := ⟨1, ![64]⟩
abbrev S64x64 : Shape := ⟨2, ![64, 64]⟩
abbrev S384x64 : Shape := ⟨2, ![384, 64]⟩
abbrev S256x64 : Shape := ⟨2, ![256, 64]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096x64 : S_.BroadcastsInDim S4096x64 (![] : Fin 0 → Fin S4096x64.rank)
  reducesTo_S4096x64_S_d0_1 : S4096x64.ReducesTo [0, 1] S_
  bcast_S_S64x64 : S_.BroadcastsInDim S64x64 (![] : Fin 0 → Fin S64x64.rank)
  reducesTo_S64x64_S_d0_1 : S64x64.ReducesTo [0, 1] S_
  bcast_S_S256x64 : S_.BroadcastsInDim S256x64 (![] : Fin 0 → Fin S256x64.rank)
  reducesTo_S256x64_S_d0_1 : S256x64.ReducesTo [0, 1] S_

variable [Facts]

def fn_part2 {F : FTy → Type} [FloatOps F] (main_arg20 : FVec F S256x64 .f32) (main_v33 : IVec S_ 1) : IVec S_ 1 :=
  let main_v34 : FVec F S256x64 .f32 := Host.absf main_arg20
  let main_cst_12 : FVec F S_ .f32 := constant S_ .f32 0x7F800000#32
  let main_v35 : FVec F S256x64 .f32 := broadcastInDim S256x64 ![] bcast_S_S256x64 main_cst_12
  let main_v36 : IVec S256x64 1 := cmpf .olt main_v34 main_v35
  let main_c_13 : IVec S_ 1 := constantI S_ 1 1#1
  let main_v37 : IVec S_ 1 := (fun x v => Host.reduce IntOp.andi x v reducesTo_S256x64_S_d0_1 h_S_) main_v36 main_c_13
  let main_v38 : IVec S_ 1 := andi main_v33 main_v37
  main_v38

def fn_part1 {F : FTy → Type} [FloatOps F] (main_arg16 : FVec F S4096x64 .f32) (main_arg17 : FVec F S4096x64 .f32) (main_arg18 : FVec F S64x64 .f32) (main_arg20 : FVec F S256x64 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S4096x64 .f32 := Host.absf main_arg16
  let main_cst_6 : FVec F S_ .f32 := constant S_ .f32 0x7F800000#32
  let main_v20 : FVec F S4096x64 .f32 := broadcastInDim S4096x64 ![] bcast_S_S4096x64 main_cst_6
  let main_v21 : IVec S4096x64 1 := cmpf .olt main_v19 main_v20
  let main_c_7 : IVec S_ 1 := constantI S_ 1 1#1
  let main_v22 : IVec S_ 1 := (fun x v => Host.reduce IntOp.andi x v reducesTo_S4096x64_S_d0_1 h_S_) main_v21 main_c_7
  let main_v23 : IVec S_ 1 := andi main_v18 main_v22
  let main_v24 : FVec F S4096x64 .f32 := Host.absf main_arg17
  let main_cst_8 : FVec F S_ .f32 := constant S_ .f32 0x7F800000#32
  let main_v25 : FVec F S4096x64 .f32 := broadcastInDim S4096x64 ![] bcast_S_S4096x64 main_cst_8
  let main_v26 : IVec S4096x64 1 := cmpf .olt main_v24 main_v25
  let main_c_9 : IVec S_ 1 := constantI S_ 1 1#1
  let main_v27 : IVec S_ 1 := (fun x v => Host.reduce IntOp.andi x v reducesTo_S4096x64_S_d0_1 h_S_) main_v26 main_c_9
  let main_v28 : IVec S_ 1 := andi main_v23 main_v27
  let main_v29 : FVec F S64x64 .f32 := Host.absf main_arg18
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg20 main_v33

def fn {F : FTy → Type} [FloatOps F] (main_arg0 : FVec F S4096x4096 .f32) (main_arg1 : FVec F S4096x4096 .f32) (main_arg2 : FVec F S4096x4096 .f32) (main_arg3 : FVec F S4096x4096 .f32) (main_arg4 : FVec F S4096x4096 .f32) (main_arg5 : FVec F S4096x4096 .f32) (main_arg6 : FVec F S4096x4096 .f32) (main_arg7 : FVec F S4096x384 .f32) (main_arg8 : FVec F S4096x64 .f32) (main_arg9 : FVec F S64 .f32) (main_arg10 : FVec F S64x64 .f32) (main_arg11 : FVec F S64 .f32) (main_arg12 : FVec F S384x64 .f32) (main_arg13 : FVec F S64 .f32) (main_arg14 : FVec F S64x64 .f32) (main_arg15 : FVec F S64 .f32) (main_arg16 : FVec F S4096x64 .f32) (main_arg17 : FVec F S4096x64 .f32) (main_arg18 : FVec F S64x64 .f32) (main_arg19 : FVec F S64x64 .f32) (main_arg20 : FVec F S256x64 .f32) : IVec S_ 1 :=
  let main_v0 : FVec F S4096x4096 .f32 := Host.absf main_arg2
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg3
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg4
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096x4096 .f32 := Host.absf main_arg5
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg16 main_arg17 main_arg18 main_arg20 main_v13 main_v16
-- ==== Kernel.lean ====
abbrev S4096x4096 : Shape := ⟨2, ![4096, 4096]⟩
abbrev S4096x384 : Shape := ⟨2, ![4096, 384]⟩
abbrev S4096x64 : Shape := ⟨2, ![4096, 64]⟩
abbrev S64 : Shape := ⟨1, ![64]⟩
abbrev S64x64 : Shape := ⟨2, ![64, 64]⟩
abbrev S384x64 : Shape := ⟨2, ![384, 64]⟩
abbrev S256x64 : Shape := ⟨2, ![256, 64]⟩
abbrev S1x64 : Shape := ⟨2, ![1, 64]⟩
abbrev S4096x128 : Shape := ⟨2, ![4096, 128]⟩
abbrev S256x4096 : Shape := ⟨2, ![256, 4096]⟩
abbrev S256x384 : Shape := ⟨2, ![256, 384]⟩
abbrev S256x128 : Shape := ⟨2, ![256, 128]⟩
abbrev S256 : Shape := ⟨1, ![256]⟩
abbrev S256x1 : Shape := ⟨2, ![256, 1]⟩
abbrev S512x4096 : Shape := ⟨2, ![512, 4096]⟩
abbrev S512x64 : Shape := ⟨2, ![512, 64]⟩
abbrev S4096x192 : Shape := ⟨2, ![4096, 192]⟩
abbrev S512x192 : Shape := ⟨2, ![512, 192]⟩
abbrev S512x128 : Shape := ⟨2, ![512, 128]⟩
abbrev S512 : Shape := ⟨1, ![512]⟩
abbrev S512x1 : Shape := ⟨2, ![512, 1]⟩

abbrev nBuf : Space → Nat
  | .hbm => 30
  | .vmem => 49
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x384, .f32⟩
  | .hbm, ⟨8, _⟩ => ⟨S4096x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S384x64, .f32⟩
  | .hbm, ⟨13, _⟩ => ⟨S64, .f32⟩
  | .hbm, ⟨14, _⟩ => ⟨S64x64, .f32⟩
  | .hbm, ⟨15, _⟩ => ⟨S64, .f32⟩
  | .hbm, ⟨16, _⟩ => ⟨S4096x64, .f32⟩
  | .hbm, ⟨17, _⟩ => ⟨S4096x64, .f32⟩
  | .hbm, ⟨18, _⟩ => ⟨S64x64, .f32⟩
  | .hbm, ⟨19, _⟩ => ⟨S64x64, .f32⟩
  | .hbm, ⟨20, _⟩ => ⟨S256x64, .f32⟩
  | .hbm, ⟨21, _⟩ => ⟨S1x64, .f32⟩
  | .hbm, ⟨22, _⟩ => ⟨S1x64, .f32⟩
  | .hbm, ⟨23, _⟩ => ⟨S1x64, .f32⟩
  | .hbm, ⟨24, _⟩ => ⟨S1x64, .f32⟩
  | .hbm, ⟨25, _⟩ => ⟨S4096x64, .f32⟩
  | .hbm, ⟨26, _⟩ => ⟨S4096x64, .f32⟩
  | .hbm, ⟨27, _⟩ => ⟨S4096x128, .bf16⟩
  | .hbm, ⟨28, _⟩ => ⟨S4096x64, .f32⟩
  | .hbm, ⟨29, _⟩ => ⟨S4096x64, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S256x4096, .f32⟩
  | .local _ .vmem, ⟨5, _⟩ => ⟨S256x4096, .f32⟩
  | .local _ .vmem, ⟨6, _⟩ => ⟨S256x4096, .f32⟩
  | .local _ .vmem, ⟨7, _⟩ => ⟨S256x4096, .f32⟩
  | .local _ .vmem, ⟨8, _⟩ => ⟨S256x4096, .f32⟩
  | .local _ .vmem, ⟨9, _⟩ => ⟨S256x4096, .f32⟩
  | .local _ .vmem, ⟨10, _⟩ => ⟨S256x384, .f32⟩
  | .local _ .vmem, ⟨11, _⟩ => ⟨S256x384, .f32⟩
  | .local _ .vmem, ⟨12, _⟩ => ⟨S4096x64, .f32⟩
  | .local _ .vmem, ⟨13, _⟩ => ⟨S4096x64, .f32⟩
  | .local _ .vmem, ⟨14, _⟩ => ⟨S256x64, .f32⟩
  | .local _ .vmem, ⟨15, _⟩ => ⟨S256x64, .f32⟩
  | .local _ .vmem, ⟨16, _⟩ => ⟨S256x64, .f32⟩
  | .local _ .vmem, ⟨17, _⟩ => ⟨S256x64, .f32⟩
  | .local _ .vmem, ⟨18, _⟩ => ⟨S256x64, .f32⟩
  | .local _ .vmem, ⟨19, _⟩ => ⟨S4096x64, .f32⟩
  | .local _ .vmem, ⟨20, _⟩ => ⟨S1x64, .f32⟩
  | .local _ .vmem, ⟨21, _⟩ => ⟨S64x64, .f32⟩
  | .local _ .vmem, ⟨22, _⟩ => ⟨S1x64, .f32⟩
  | .local _ .vmem, ⟨23, _⟩ => ⟨S384x64, .f32⟩
  | .local _ .vmem, ⟨24, _⟩ => ⟨S1x64, .f32⟩
  | .local _ .vmem, ⟨25, _⟩ => ⟨S64x64, .f32⟩
  | .local _ .vmem, ⟨26, _⟩ => ⟨S1x64, .f32⟩
  | .local _ .vmem, ⟨27, _⟩ => ⟨S256x64, .f32⟩
  | .local _ .vmem, ⟨28, _⟩ => ⟨S256x64, .f32⟩
  | .local _ .vmem, ⟨29, _⟩ => ⟨S256x64, .f32⟩
  | .local _ .vmem, ⟨30, _⟩ => ⟨S256x64, .f32⟩
  | .local _ .vmem, ⟨31, _⟩ => ⟨S256x128, .bf16⟩
  | .local _ .vmem, ⟨32, _⟩ => ⟨S256x128, .bf16⟩
  | .local _ .vmem, ⟨33, _⟩ => ⟨S512x4096, .f32⟩
  | .local _ .vmem, ⟨34, _⟩ => ⟨S512x4096, .f32⟩
  | .local _ .vmem, ⟨35, _⟩ => ⟨S512x4096, .f32⟩
  | .local _ .vmem, ⟨36, _⟩ => ⟨S512x4096, .f32⟩
  | .local _ .vmem, ⟨37, _⟩ => ⟨S4096x64, .f32⟩
  | .local _ .vmem, ⟨38, _⟩ => ⟨S4096x64, .f32⟩
  | .local _ .vmem, ⟨39, _⟩ => ⟨S4096x128, .bf16⟩
  | .local _ .vmem, ⟨40, _⟩ => ⟨S512x64, .f32⟩
  | .local _ .vmem, ⟨41, _⟩ => ⟨S512x64, .f32⟩
  | .local _ .vmem, ⟨42, _⟩ => ⟨S512x64, .f32⟩
  | .local _ .vmem, ⟨43, _⟩ => ⟨S512x64, .f32⟩
  | .local _ .vmem, ⟨44, _⟩ => ⟨S4096x192, .bf16⟩
  | .local _ .vmem, ⟨45, _⟩ => ⟨S4096x192, .bf16⟩
  | .local _ .vmem, ⟨46, _⟩ => ⟨S4096x192, .bf16⟩
  | .local _ .vmem, ⟨47, _⟩ => ⟨S4096x192, .bf16⟩
  | .local _ .vmem, ⟨48, _⟩ => ⟨S4096x64, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4_0 : Ref sig .tc := ⟨.hbm, 25, rfl⟩
abbrev main_v4_1 : Ref sig .tc := ⟨.hbm, 26, rfl⟩
abbrev main_v4_2 : Ref sig .tc := ⟨.hbm, 27, rfl⟩
abbrev main_v5_0 : Ref sig .tc := ⟨.hbm, 28, rfl⟩
abbrev main_v5_1 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg17_0 : Ref sig .tc := ⟨.vmem, 25, rfl⟩
abbrev cc0_stg18_0 : Ref sig .tc := ⟨.vmem, 26, rfl⟩
abbrev cc0_stg19_0 : Ref sig .tc := ⟨.vmem, 27, rfl⟩
abbrev cc0_stg19_1 : Ref sig .tc := ⟨.vmem, 28, rfl⟩
abbrev cc0_stg20_0 : Ref sig .tc := ⟨.vmem, 29, rfl⟩
abbrev cc0_stg20_1 : Ref sig .tc := ⟨.vmem, 30, rfl⟩
abbrev cc0_stg21_0 : Ref sig .tc := ⟨.vmem, 31, rfl⟩
abbrev cc0_stg21_1 : Ref sig .tc := ⟨.vmem, 32, rfl⟩
abbrev cc1_stg0_0 : Ref sig .tc := ⟨.vmem, 33, rfl⟩
abbrev cc1_stg0_1 : Ref sig .tc := ⟨.vmem, 34, rfl⟩
abbrev cc1_stg1_0 : Ref sig .tc := ⟨.vmem, 35, rfl⟩
abbrev cc1_stg1_1 : Ref sig .tc := ⟨.vmem, 36, rfl⟩
abbrev cc1_stg2_0 : Ref sig .tc := ⟨.vmem, 37, rfl⟩
abbrev cc1_stg3_0 : Ref sig .tc := ⟨.vmem, 38, rfl⟩
abbrev cc1_stg4_0 : Ref sig .tc := ⟨.vmem, 39, rfl⟩
abbrev cc1_stg5_0 : Ref sig .tc := ⟨.vmem, 40, rfl⟩
abbrev cc1_stg5_1 : Ref sig .tc := ⟨.vmem, 41, rfl⟩
abbrev cc1_stg6_0 : Ref sig .tc := ⟨.vmem, 42, rfl⟩
abbrev cc1_stg6_1 : Ref sig .tc := ⟨.vmem, 43, rfl⟩
abbrev cc1_scratch0 : Ref sig .tc := ⟨.vmem, 44, rfl⟩
abbrev cc1_scratch1 : Ref sig .tc := ⟨.vmem, 45, rfl⟩
abbrev cc1_scratch2 : Ref sig .tc := ⟨.vmem, 46, rfl⟩
abbrev cc1_scratch3 : Ref sig .tc := ⟨.vmem, 47, rfl⟩
abbrev cc1_scratch4 : Ref sig .tc := ⟨.vmem, 48, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem16_0 : DmaSem sig := 24
abbrev cc0_sem17_0 : DmaSem sig := 25
abbrev cc0_sem18_0 : DmaSem sig := 26
abbrev cc0_sem19_0 : DmaSem sig := 27
abbrev cc0_sem19_1 : DmaSem sig := 28
abbrev cc0_sem20_0 : DmaSem sig := 29
abbrev cc0_sem20_1 : DmaSem sig := 30
abbrev cc0_sem21_0 : DmaSem sig := 31
abbrev cc0_sem21_1 : DmaSem sig := 32
abbrev cc1_sem0_0 : DmaSem sig := 33
abbrev cc1_sem0_1 : DmaSem sig := 34
abbrev cc1_sem1_0 : DmaSem sig := 35
abbrev cc1_sem1_1 : DmaSem sig := 36
abbrev cc1_sem2_0 : DmaSem sig := 37
abbrev cc1_sem3_0 : DmaSem sig := 38
abbrev cc1_sem4_0 : DmaSem sig := 39
abbrev cc1_sem5_0 : DmaSem sig := 40
abbrev cc1_sem5_1 : DmaSem sig := 41
abbrev cc1_sem6_0 : DmaSem sig := 42
abbrev cc1_sem6_1 : DmaSem sig := 43

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4096x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4096x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S4096x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S64x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S384x64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x64 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S64x64 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x64 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S256x64 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x64 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x128 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev grid1 : Pipeline.Grid := ⟨1, ![32], ![false]⟩

def k1_cond2 (i : grid1.Coords) : BitVec 1 :=
  let arg0 : BitVec 32 := BitVec.ofNat 32 (i 0).val
  let c8_i32 : BitVec 32 := 8#32
  let v3 : BitVec 1 := Scalar.cmpi .slt arg0 c8_i32
  let v4 : BitVec 32 := Scalar.extui v3
  let c0_i32_1 : BitVec 32 := 0#32
  let v5 : BitVec 1 := Scalar.cmpi .ne v4 c0_i32_1
  v5

def k1_off1 (i : grid1.Coords) : Fin 2 → Nat :=
  let arg0 : BitVec 32 := BitVec.ofNat 32 (i 0).val
  let c512_i32 : BitVec 32 := 512#32
  let v19 : BitVec 32 := Scalar.muli arg0 c512_i32
  let v25 : Index := Scalar.indexCast v19
  let c0_11 : Index := 0#32
  ![v25.toNat, 0]
def k1_cond3 (i : grid1.Coords) : BitVec 1 :=
  let arg0 : BitVec 32 := BitVec.ofNat 32 (i 0).val
  let c8_i32_2 : BitVec 32 := 8#32
  let v6 : BitVec 1 := Scalar.cmpi .sge arg0 c8_i32_2
  let c16_i32 : BitVec 32 := 16#32
  let v7 : BitVec 1 := Scalar.cmpi .slt arg0 c16_i32
  let v8 : BitVec 1 := Scalar.andi v6 v7
  let v9 : BitVec 32 := Scalar.extui v8
  let c0_i32_3 : BitVec 32 := 0#32
  let v10 : BitVec 1 := Scalar.cmpi .ne v9 c0_i32_3
  v10

def k1_off2 (i : grid1.Coords) : Fin 2 → Nat :=
  let arg0 : BitVec 32 := BitVec.ofNat 32 (i 0).val
  let c8_i32_8 : BitVec 32 := 8#32
  let v19 : BitVec 32 := Scalar.subi arg0 c8_i32_8
  let c512_i32 : BitVec 32 := 512#32
  let v20 : BitVec 32 := Scalar.muli v19 c512_i32
  let v27 : Index := Scalar.indexCast v20
  let c0_12 : Index := 0#32
  ![v27.toNat, 0]
def k1_off3 (i : grid1.Coords) : Fin 2 → Nat :=
  let arg0 : BitVec 32 := BitVec.ofNat 32 (i 0).val
  let c8_i32_8 : BitVec 32 := 8#32
  let v19 : BitVec 32 := Scalar.subi arg0 c8_i32_8
  let c512_i32 : BitVec 32 := 512#32
  let v20 : BitVec 32 := Scalar.muli v19 c512_i32
  let v33 : Index := Scalar.indexCast v20
  let c0_13 : Index := 0#32
  ![v33.toNat, 0]
def k1_off4 (i : grid1.Coords) : Fin 2 → Nat :=
  let arg0 : BitVec 32 := BitVec.ofNat 32 (i 0).val
  let c8_i32_8 : BitVec 32 := 8#32
  let v19 : BitVec 32 := Scalar.subi arg0 c8_i32_8
  let c512_i32 : BitVec 32 := 512#32
  let v20 : BitVec 32 := Scalar.muli v19 c512_i32
  let v47 : Index := Scalar.indexCast v20
  let c128 : Index := 128#32
  ![v47.toNat, 128]
def k1_cond4 (i : grid1.Coords) : BitVec 1 :=
  let arg0 : BitVec 32 := BitVec.ofNat 32 (i 0).val
  let c16_i32_4 : BitVec 32 := 16#32
  let v11 : BitVec 1 := Scalar.cmpi .sge arg0 c16_i32_4
  let c24_i32 : BitVec 32 := 24#32
  let v12 : BitVec 1 := Scalar.cmpi .slt arg0 c24_i32
  let v13 : BitVec 1 := Scalar.andi v11 v12
  let v14 : BitVec 32 := Scalar.extui v13
  let c0_i32_5 : BitVec 32 := 0#32
  let v15 : BitVec 1 := Scalar.cmpi .ne v14 c0_i32_5
  v15

def k1_off5 (i : grid1.Coords) : Fin 2 → Nat :=
  let arg0 : BitVec 32 := BitVec.ofNat 32 (i 0).val
  let c16_i32_8 : BitVec 32 := 16#32
  let v19 : BitVec 32 := Scalar.subi arg0 c16_i32_8
  let c512_i32 : BitVec 32 := 512#32
  let v20 : BitVec 32 := Scalar.muli v19 c512_i32
  let v26 : Index := Scalar.indexCast v20
  let c0_12 : Index := 0#32
  ![v26.toNat, 0]
def k1_off6 (i : grid1.Coords) : Fin 2 → Nat :=
  let arg0 : BitVec 32 := BitVec.ofNat 32 (i 0).val
  let c16_i32_8 : BitVec 32 := 16#32
  let v19 : BitVec 32 := Scalar.subi arg0 c16_i32_8
  let c512_i32 : BitVec 32 := 512#32
  let v20 : BitVec 32 := Scalar.muli v19 c512_i32
  let v30 : Index := Scalar.indexCast v20
  let c128 : Index := 128#32
  ![v30.toNat, 128]
def k1_off7 (i : grid1.Coords) : Fin 2 → Nat :=
  let arg0 : BitVec 32 := BitVec.ofNat 32 (i 0).val
  let c16_i32_8 : BitVec 32 := 16#32
  let v19 : BitVec 32 := Scalar.subi arg0 c16_i32_8
  let c512_i32 : BitVec 32 := 512#32
  let v20 : BitVec 32 := Scalar.muli v19 c512_i32
  let v33 : Index := Scalar.indexCast v20
  let c0_13 : Index := 0#32
  ![v33.toNat, 0]
def k1_cond5 (i : grid1.Coords) : BitVec 1 :=
  let arg0 : BitVec 32 := BitVec.ofNat 32 (i 0).val
  let c24_i32_6 : BitVec 32 := 24#32
  let v16 : BitVec 1 := Scalar.cmpi .sge arg0 c24_i32_6
  let v17 : BitVec 32 := Scalar.extui v16
  let c0_i32_7 : BitVec 32 := 0#32
  let v18 : BitVec 1 := Scalar.cmpi .ne v17 c0_i32_7
  v18

def k1_off8 (i : grid1.Coords) : Fin 2 → Nat :=
  let arg0 : BitVec 32 := BitVec.ofNat 32 (i 0).val
  let c24_i32_8 : BitVec 32 := 24#32
  let v19 : BitVec 32 := Scalar.subi arg0 c24_i32_8
  let c512_i32 : BitVec 32 := 512#32
  let v20 : BitVec 32 := Scalar.muli v19 c512_i32
  let v25 : Index := Scalar.indexCast v20
  let c0_12 : Index := 0#32
  ![v25.toNat, 0]
def cc1_transform_0 (i : grid1.Coords) : Fin 2 → Nat :=
  let arg0 : BitVec 32 := BitVec.ofNat 32 (i 0).val
  let c16_i32 : BitVec 32 := 16#32
  let v0 : BitVec 1 := Scalar.cmpi .slt arg0 c16_i32
  let c0_i32 : BitVec 32 := 0#32
  let v1 : BitVec 32 := Scalar.maxsi arg0 c0_i32
  let c7_i32 : BitVec 32 := 7#32
  let v2 : BitVec 32 := Scalar.minsi v1 c7_i32
  let c16_i32_0 : BitVec 32 := 16#32
  let v3 : BitVec 32 := Scalar.subi arg0 c16_i32_0
  let c0_i32_1 : BitVec 32 := 0#32
  let v4 : BitVec 32 := Scalar.maxsi v3 c0_i32_1
  let c7_i32_2 : BitVec 32 := 7#32
  let v5 : BitVec 32 := Scalar.minsi v4 c7_i32_2
  let v6 : BitVec 32 := Scalar.select v0 v2 v5
  let c0_i32_3 : BitVec 32 := 0#32
  let c0_i32_4 : BitVec 32 := 0#32
  ![v6.toNat, c0_i32_3.toNat]

def cc1_transform_1 (i : grid1.Coords) : Fin 2 → Nat :=
  let arg0 : BitVec 32 := BitVec.ofNat 32 (i 0).val
  let c24_i32 : BitVec 32 := 24#32
  let v0 : BitVec 1 := Scalar.cmpi .slt arg0 c24_i32
  let c8_i32 : BitVec 32 := 8#32
  let v1 : BitVec 32 := Scalar.subi arg0 c8_i32
  let c0_i32 : BitVec 32 := 0#32
  let v2 : BitVec 32 := Scalar.maxsi v1 c0_i32
  let c7_i32 : BitVec 32 := 7#32
  let v3 : BitVec 32 := Scalar.minsi v2 c7_i32
  let c24_i32_0 : BitVec 32 := 24#32
  let v4 : BitVec 32 := Scalar.subi arg0 c24_i32_0
  let c0_i32_1 : BitVec 32 := 0#32
  let v5 : BitVec 32 := Scalar.maxsi v4 c0_i32_1
  let c7_i32_2 : BitVec 32 := 7#32
  let v6 : BitVec 32 := Scalar.minsi v5 c7_i32_2
  let v7 : BitVec 32 := Scalar.select v0 v3 v6
  let c0_i32_3 : BitVec 32 := 0#32
  let c0_i32_4 : BitVec 32 := 0#32
  ![v7.toNat, c0_i32_3.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c7_i32 : BitVec 32 := 7#32
  let v2 : BitVec 32 := Scalar.minsi v1 c7_i32
  let c0_i32_0 : BitVec 32 := 0#32
  let c0_i32_1 : BitVec 32 := 0#32
  ![v2.toNat, c0_i32_0.toNat]

def cc1_transform_6 (i : grid1.Coords) : Fin 2 → Nat :=
  let arg0 : BitVec 32 := BitVec.ofNat 32 (i 0).val
  let c24_i32 : BitVec 32 := 24#32
  let v0 : BitVec 32 := Scalar.subi arg0 c24_i32
  let c0_i32 : BitVec 32 := 0#32
  let v1 : BitVec 32 := Scalar.maxsi v0 c0_i32
  let c7_i32 : BitVec 32 := 7#32
  let v2 : BitVec 32 := Scalar.minsi v1 c7_i32
  let c0_i32_0 : BitVec 32 := 0#32
  let c0_i32_1 : BitVec 32 := 0#32
  ![v2.toNat, c0_i32_0.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S4096x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S4096x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S4096x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S512x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S512x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]
-- ==== ReferenceIdeal.lean ====
abbrev S4096x4096 : Shape := ⟨2, ![4096, 4096]⟩
abbrev S4096x384 : Shape := ⟨2, ![4096, 384]⟩
abbrev S4096x64 : Shape := ⟨2, ![4096, 64]⟩
abbrev S64 : Shape := ⟨1, ![64]⟩
abbrev S64x64 : Shape := ⟨2, ![64, 64]⟩
abbrev S384x64 : Shape := ⟨2, ![384, 64]⟩
abbrev S256x64 : Shape := ⟨2, ![256, 64]⟩
abbrev S1x64 : Shape := ⟨2, ![1, 64]⟩
abbrev S_ : Shape := ⟨0, ![]⟩
abbrev S1x4096x64 : Shape := ⟨3, ![1, 4096, 64]⟩
abbrev S2x4096x64 : Shape := ⟨3, ![2, 4096, 64]⟩
abbrev S2x4096x4x16 : Shape := ⟨4, ![2, 4096, 4, 16]⟩
abbrev S4x2x4096x16 : Shape := ⟨4, ![4, 2, 4096, 16]⟩
abbrev S4x2x1x4096x16 : Shape := ⟨5, ![4, 2, 1, 4096, 16]⟩
abbrev S4x1x2x4096x16 : Shape := ⟨5, ![4, 1, 2, 4096, 16]⟩
abbrev S2x1x4096x64 : Shape := ⟨4, ![2, 1, 4096, 64]⟩
abbrev S4x2x2x4096x16 : Shape := ⟨5, ![4, 2, 2, 4096, 16]⟩
abbrev S4x2x2x4096 : Shape := ⟨4, ![4, 2, 2, 4096]⟩
abbrev S4x2x2x4096x1 : Shape := ⟨5, ![4, 2, 2, 4096, 1]⟩
abbrev S4x2x4096x1 : Shape := ⟨4, ![4, 2, 4096, 1]⟩
abbrev S4x2x1x4096x1 : Shape := ⟨5, ![4, 2, 1, 4096, 1]⟩
abbrev S1x2x1x4096x64 : Shape := ⟨5, ![1, 2, 1, 4096, 64]⟩
abbrev S4x2x2x4096x64 : Shape := ⟨5, ![4, 2, 2, 4096, 64]⟩
abbrev S4x2x4096x64 : Shape := ⟨4, ![4, 2, 4096, 64]⟩
abbrev S1x2x4096x64 : Shape := ⟨4, ![1, 2, 4096, 64]⟩
abbrev S2x4096x256 : Shape := ⟨3, ![2, 4096, 256]⟩
abbrev S4096 : Shape := ⟨1, ![4096]⟩
abbrev S4096x1 : Shape := ⟨2, ![4096, 1]⟩
abbrev S3x4096x64 : Shape := ⟨3, ![3, 4096, 64]⟩

abbrev nBuf : Space → Nat
  | .hbm => 323
  | .vmem => 0
  | .smem => 0
  | _ => 0

abbrev hbmTy0_0 (i : Nat) : BufTy := match i % 128 with
  | 0 => ⟨S4096x4096, .f32⟩
  | 1 => ⟨S4096x4096, .f32⟩
  | 2 => ⟨S4096x4096, .f32⟩
  | 3 => ⟨S4096x4096, .f32⟩
  | 4 => ⟨S4096x4096, .f32⟩
  | 5 => ⟨S4096x4096, .f32⟩
  | 6 => ⟨S4096x4096, .f32⟩
  | 7 => ⟨S4096x384, .f32⟩
  | 8 => ⟨S4096x64, .f32⟩
  | 9 => ⟨S64, .f32⟩
  | 10 => ⟨S64x64, .f32⟩
  | 11 => ⟨S64, .f32⟩
  | 12 => ⟨S384x64, .f32⟩
  | 13 => ⟨S64, .f32⟩
  | 14 => ⟨S64x64, .f32⟩
  | 15 => ⟨S64, .f32⟩
  | 16 => ⟨S4096x64, .f32⟩
  | 17 => ⟨S4096x64, .f32⟩
  | 18 => ⟨S64x64, .f32⟩
  | 19 => ⟨S64x64, .f32⟩
  | 20 => ⟨S256x64, .f32⟩
  | 21 => ⟨S4096x64, .f32⟩
  | 22 => ⟨S1x64, .f32⟩
  | 23 => ⟨S4096x64, .f32⟩
  | 24 => ⟨S4096x64, .f32⟩
  | 25 => ⟨S_, .f32⟩
  | 26 => ⟨S_, .f32⟩
  | 27 => ⟨S4096x64, .f32⟩
  | 28 => ⟨S4096x64, .i1⟩
  | 29 => ⟨S_, .f32⟩
  | 30 => ⟨S4096x64, .f32⟩
  | 31 => ⟨S4096x64, .f32⟩
  | 32 => ⟨S4096x64, .f32⟩
  | 33 => ⟨S4096x64, .f32⟩
  | 34 => ⟨S1x64, .f32⟩
  | 35 => ⟨S4096x64, .f32⟩
  | 36 => ⟨S4096x64, .f32⟩
  | 37 => ⟨S_, .f32⟩
  | 38 => ⟨S_, .f32⟩
  | 39 => ⟨S4096x64, .f32⟩
  | 40 => ⟨S4096x64, .i1⟩
  | 41 => ⟨S_, .f32⟩
  | 42 => ⟨S4096x64, .f32⟩
  | 43 => ⟨S4096x64, .f32⟩
  | 44 => ⟨S4096x64, .f32⟩
  | 45 => ⟨S4096x64, .f32⟩
  | 46 => ⟨S4096x64, .f32⟩
  | 47 => ⟨S4096x64, .f32⟩
  | 48 => ⟨S4096x64, .f32⟩
  | 49 => ⟨S4096x64, .f32⟩
  | 50 => ⟨S4096x64, .f32⟩
  | 51 => ⟨S4096x64, .f32⟩
  | 52 => ⟨S1x64, .f32⟩
  | 53 => ⟨S4096x64, .f32⟩
  | 54 => ⟨S4096x64, .f32⟩
  | 55 => ⟨S_, .f32⟩
  | 56 => ⟨S_, .f32⟩
  | 57 => ⟨S4096x64, .f32⟩
  | 58 => ⟨S4096x64, .i1⟩
  | 59 => ⟨S_, .f32⟩
  | 60 => ⟨S4096x64, .f32⟩
  | 61 => ⟨S4096x64, .f32⟩
  | 62 => ⟨S4096x64, .f32⟩
  | 63 => ⟨S4096x64, .f32⟩
  | 64 => ⟨S1x64, .f32⟩
  | 65 => ⟨S4096x64, .f32⟩
  | 66 => ⟨S4096x64, .f32⟩
  | 67 => ⟨S_, .f32⟩
  | 68 => ⟨S_, .f32⟩
  | 69 => ⟨S4096x64, .f32⟩
  | 70 => ⟨S4096x64, .i1⟩
  | 71 => ⟨S_, .f32⟩
  | 72 => ⟨S4096x64, .f32⟩
  | 73 => ⟨S4096x64, .f32⟩
  | 74 => ⟨S4096x64, .f32⟩
  | 75 => ⟨S4096x64, .f32⟩
  | 76 => ⟨S4096x64, .f32⟩
  | 77 => ⟨S4096x64, .f32⟩
  | 78 => ⟨S4096x64, .f32⟩
  | 79 => ⟨S4096x64, .f32⟩
  | 80 => ⟨S4096x64, .f32⟩
  | 81 => ⟨S1x4096x64, .f32⟩
  | 82 => ⟨S1x4096x64, .f32⟩
  | 83 => ⟨S2x4096x64, .f32⟩
  | 84 => ⟨S2x4096x64, .f32⟩
  | 85 => ⟨S2x4096x4x16, .f32⟩
  | 86 => ⟨S4x2x4096x16, .f32⟩
  | 87 => ⟨S4x2x1x4096x16, .f32⟩
  | 88 => ⟨S4x1x2x4096x16, .f32⟩
  | 89 => ⟨S2x1x4096x64, .f32⟩
  | 90 => ⟨S4x2x2x4096x16, .f32⟩
  | 91 => ⟨S4x2x2x4096x16, .f32⟩
  | 92 => ⟨S4x2x2x4096x16, .f32⟩
  | 93 => ⟨S_, .f32⟩
  | 94 => ⟨S_, .f32⟩
  | 95 => ⟨S4x2x2x4096x16, .f32⟩
  | 96 => ⟨S4x2x2x4096x16, .f32⟩
  | 97 => ⟨S_, .f32⟩
  | 98 => ⟨S4x2x2x4096, .f32⟩
  | 99 => ⟨S4x2x2x4096x1, .f32⟩
  | 100 => ⟨S_, .f32⟩
  | 101 => ⟨S4x2x4096x1, .f32⟩
  | 102 => ⟨S_, .f32⟩
  | 103 => ⟨S4x2x4096x1, .f32⟩
  | 104 => ⟨S4x2x4096x1, .f32⟩
  | 105 => ⟨S4x2x1x4096x1, .f32⟩
  | 106 => ⟨S4x2x2x4096x1, .f32⟩
  | 107 => ⟨S4x2x2x4096x1, .f32⟩
  | 108 => ⟨S4x2x2x4096x1, .f32⟩
  | 109 => ⟨S_, .f32⟩
  | 110 => ⟨S4x2x4096x1, .f32⟩
  | 111 => ⟨S4x2x1x4096x1, .f32⟩
  | 112 => ⟨S4x2x2x4096x1, .f32⟩
  | 113 => ⟨S4x2x2x4096x1, .f32⟩
  | 114 => ⟨S1x2x1x4096x64, .f32⟩
  | 115 => ⟨S4x2x2x4096x64, .f32⟩
  | 116 => ⟨S4x2x2x4096x64, .f32⟩
  | 117 => ⟨S4x2x2x4096x64, .f32⟩
  | 118 => ⟨S_, .f32⟩
  | 119 => ⟨S4x2x4096x64, .f32⟩
  | 120 => ⟨S1x2x4096x64, .f32⟩
  | 121 => ⟨S2x4096x64, .f32⟩
  | 122 => ⟨S1x2x4096x64, .f32⟩
  | 123 => ⟨S2x4096x64, .f32⟩
  | 124 => ⟨S1x2x4096x64, .f32⟩
  | 125 => ⟨S2x4096x64, .f32⟩
  | 126 => ⟨S1x2x4096x64, .f32⟩
  | 127 => ⟨S2x4096x64, .f32⟩
  | _ => ⟨S4096x4096, .f32⟩

abbrev hbmTy0_1 (i : Nat) : BufTy := match i % 128 with
  | 0 => ⟨S2x4096x256, .f32⟩
  | 1 => ⟨S2x4096x64, .f32⟩
  | 2 => ⟨S1x4096x64, .f32⟩
  | 3 => ⟨S1x4096x64, .f32⟩
  | 4 => ⟨S2x4096x64, .f32⟩
  | 5 => ⟨S2x4096x64, .f32⟩
  | 6 => ⟨S2x4096x4x16, .f32⟩
  | 7 => ⟨S4x2x4096x16, .f32⟩
  | 8 => ⟨S4x2x1x4096x16, .f32⟩
  | 9 => ⟨S4x1x2x4096x16, .f32⟩
  | 10 => ⟨S2x1x4096x64, .f32⟩
  | 11 => ⟨S4x2x2x4096x16, .f32⟩
  | 12 => ⟨S4x2x2x4096x16, .f32⟩
  | 13 => ⟨S4x2x2x4096x16, .f32⟩
  | 14 => ⟨S_, .f32⟩
  | 15 => ⟨S_, .f32⟩
  | 16 => ⟨S4x2x2x4096x16, .f32⟩
  | 17 => ⟨S4x2x2x4096x16, .f32⟩
  | 18 => ⟨S_, .f32⟩
  | 19 => ⟨S4x2x2x4096, .f32⟩
  | 20 => ⟨S4x2x2x4096x1, .f32⟩
  | 21 => ⟨S_, .f32⟩
  | 22 => ⟨S4x2x4096x1, .f32⟩
  | 23 => ⟨S_, .f32⟩
  | 24 => ⟨S4x2x4096x1, .f32⟩
  | 25 => ⟨S4x2x4096x1, .f32⟩
  | 26 => ⟨S4x2x1x4096x1, .f32⟩
  | 27 => ⟨S4x2x2x4096x1, .f32⟩
  | 28 => ⟨S4x2x2x4096x1, .f32⟩
  | 29 => ⟨S4x2x2x4096x1, .f32⟩
  | 30 => ⟨S_, .f32⟩
  | 31 => ⟨S4x2x4096x1, .f32⟩
  | 32 => ⟨S4x2x1x4096x1, .f32⟩
  | 33 => ⟨S4x2x2x4096x1, .f32⟩
  | 34 => ⟨S4x2x2x4096x1, .f32⟩
  | 35 => ⟨S1x2x1x4096x64, .f32⟩
  | 36 => ⟨S4x2x2x4096x64, .f32⟩
  | 37 => ⟨S4x2x2x4096x64, .f32⟩
  | 38 => ⟨S4x2x2x4096x64, .f32⟩
  | 39 => ⟨S_, .f32⟩
  | 40 => ⟨S4x2x4096x64, .f32⟩
  | 41 => ⟨S1x2x4096x64, .f32⟩
  | 42 => ⟨S2x4096x64, .f32⟩
  | 43 => ⟨S1x2x4096x64, .f32⟩
  | 44 => ⟨S2x4096x64, .f32⟩
  | 45 => ⟨S1x2x4096x64, .f32⟩
  | 46 => ⟨S2x4096x64, .f32⟩
  | 47 => ⟨S1x2x4096x64, .f32⟩
  | 48 => ⟨S2x4096x64, .f32⟩
  | 49 => ⟨S2x4096x256, .f32⟩
  | 50 => ⟨S2x4096x64, .f32⟩
  | 51 => ⟨S_, .f32⟩
  | 52 => ⟨S4096x64, .f32⟩
  | 53 => ⟨S_, .f32⟩
  | 54 => ⟨S4096x64, .f32⟩
  | 55 => ⟨S4096x64, .f32⟩
  | 56 => ⟨S_, .f32⟩
  | 57 => ⟨S4096x64, .f32⟩
  | 58 => ⟨S_, .f32⟩
  | 59 => ⟨S4096x64, .f32⟩
  | 60 => ⟨S4096x64, .f32⟩
  | 61 => ⟨S4096x64, .f32⟩
  | 62 => ⟨S_, .f32⟩
  | 63 => ⟨S4096, .f32⟩
  | 64 => ⟨S4096x1, .f32⟩
  | 65 => ⟨S4096x1, .f32⟩
  | 66 => ⟨S_, .f32⟩
  | 67 => ⟨S4096x1, .f32⟩
  | 68 => ⟨S4096x1, .f32⟩
  | 69 => ⟨S4096x64, .f32⟩
  | 70 => ⟨S4096x64, .f32⟩
  | 71 => ⟨S_, .f32⟩
  | 72 => ⟨S4096x64, .f32⟩
  | 73 => ⟨S4096x64, .f32⟩
  | 74 => ⟨S4096x64, .f32⟩
  | 75 => ⟨S4096x64, .f32⟩
  | 76 => ⟨S_, .f32⟩
  | 77 => ⟨S4096, .f32⟩
  | 78 => ⟨S4096x1, .f32⟩
  | 79 => ⟨S4096x1, .f32⟩
  | 80 => ⟨S_, .f32⟩
  | 81 => ⟨S4096x1, .f32⟩
  | 82 => ⟨S4096x1, .f32⟩
  | 83 => ⟨S4096x64, .f32⟩
  | 84 => ⟨S4096x64, .f32⟩
  | 85 => ⟨S_, .f32⟩
  | 86 => ⟨S4096x64, .f32⟩
  | 87 => ⟨S4096x64, .f32⟩
  | 88 => ⟨S4096x64, .f32⟩
  | 89 => ⟨S4096x64, .f32⟩
  | 90 => ⟨S4096x64, .f32⟩
  | 91 => ⟨S_, .f32⟩
  | 92 => ⟨S4096, .f32⟩
  | 93 => ⟨S_, .f32⟩
  | 94 => ⟨S4096, .f32⟩
  | 95 => ⟨S4096, .f32⟩
  | 96 => ⟨S4096x1, .f32⟩
  | 97 => ⟨S4096x64, .f32⟩
  | 98 => ⟨S4096x64, .f32⟩
  | 99 => ⟨S4096x64, .f32⟩
  | 100 => ⟨S_, .f32⟩
  | 101 => ⟨S4096, .f32⟩
  | 102 => ⟨S4096x1, .f32⟩
  | 103 => ⟨S4096x64, .f32⟩
  | 104 => ⟨S4096x64, .f32⟩
  | 105 => ⟨S_, .f32⟩
  | 106 => ⟨S4096, .f32⟩
  | 107 => ⟨S_, .f32⟩
  | 108 => ⟨S4096, .f32⟩
  | 109 => ⟨S4096, .f32⟩
  | 110 => ⟨S4096x1, .f32⟩
  | 111 => ⟨S4096x64, .f32⟩
  | 112 => ⟨S4096x64, .f32⟩
  | 113 => ⟨S4096x64, .f32⟩
  | 114 => ⟨S_, .f32⟩
  | 115 => ⟨S4096, .f32⟩
  | 116 => ⟨S4096x1, .f32⟩
  | 117 => ⟨S4096x64, .f32⟩
  | 118 => ⟨S4096x64, .f32⟩
  | 119 => ⟨S4096x64, .f32⟩
  | 120 => ⟨S4096x64, .f32⟩
  | 121 => ⟨S1x4096x64, .f32⟩
  | 122 => ⟨S1x4096x64, .f32⟩
  | 123 => ⟨S1x4096x64, .f32⟩
  | 124 => ⟨S3x4096x64, .f32⟩
  | 125 => ⟨S_, .f32⟩
  | 126 => ⟨S4096x64, .f32⟩
  | 127 => ⟨S_, .f32⟩
  | _ => ⟨S4096x4096, .f32⟩

abbrev hbmTy0_2 (i : Nat) : BufTy := match i % 128 with
  | 0 => ⟨S4096x64, .f32⟩
  | 1 => ⟨S4096x64, .f32⟩
  | 2 => ⟨S1x4096x64, .f32⟩
  | 3 => ⟨S1x4096x64, .f32⟩
  | 4 => ⟨S1x4096x64, .f32⟩
  | 5 => ⟨S3x4096x64, .f32⟩
  | 6 => ⟨S_, .f32⟩
  | 7 => ⟨S4096x64, .f32⟩
  | 8 => ⟨S_, .f32⟩
  | 9 => ⟨S4096x64, .f32⟩
  | 10 => ⟨S4096x64, .f32⟩
  | 11 => ⟨S4096x64, .f32⟩
  | 12 => ⟨S_, .f32⟩
  | 13 => ⟨S4096, .f32⟩
  | 14 => ⟨S4096x1, .f32⟩
  | 15 => ⟨S4096x1, .f32⟩
  | 16 => ⟨S_, .f32⟩
  | 17 => ⟨S4096x1, .f32⟩
  | 18 => ⟨S4096x1, .f32⟩
  | 19 => ⟨S4096x64, .f32⟩
  | 20 => ⟨S4096x64, .f32⟩
  | 21 => ⟨S_, .f32⟩
  | 22 => ⟨S4096x64, .f32⟩
  | 23 => ⟨S4096x64, .f32⟩
  | 24 => ⟨S4096x64, .f32⟩
  | 25 => ⟨S4096x64, .f32⟩
  | 26 => ⟨S_, .f32⟩
  | 27 => ⟨S4096, .f32⟩
  | 28 => ⟨S4096x1, .f32⟩
  | 29 => ⟨S4096x1, .f32⟩
  | 30 => ⟨S_, .f32⟩
  | 31 => ⟨S4096x1, .f32⟩
  | 32 => ⟨S4096x1, .f32⟩
  | 33 => ⟨S4096x64, .f32⟩
  | 34 => ⟨S4096x64, .f32⟩
  | 35 => ⟨S_, .f32⟩
  | 36 => ⟨S4096x64, .f32⟩
  | 37 => ⟨S4096x64, .f32⟩
  | 38 => ⟨S4096x64, .f32⟩
  | 39 => ⟨S4096x64, .f32⟩
  | 40 => ⟨S_, .f32⟩
  | 41 => ⟨S4096, .f32⟩
  | 42 => ⟨S4096x1, .f32⟩
  | 43 => ⟨S4096x1, .f32⟩
  | 44 => ⟨S_, .f32⟩
  | 45 => ⟨S4096x1, .f32⟩
  | 46 => ⟨S4096x1, .f32⟩
  | 47 => ⟨S4096x64, .f32⟩
  | 48 => ⟨S4096x64, .f32⟩
  | 49 => ⟨S_, .f32⟩
  | 50 => ⟨S4096x64, .f32⟩
  | 51 => ⟨S4096x64, .f32⟩
  | 52 => ⟨S4096x64, .f32⟩
  | 53 => ⟨S4096x64, .f32⟩
  | 54 => ⟨S_, .f32⟩
  | 55 => ⟨S4096, .f32⟩
  | 56 => ⟨S4096x1, .f32⟩
  | 57 => ⟨S4096x1, .f32⟩
  | 58 => ⟨S_, .f32⟩
  | 59 => ⟨S4096x1, .f32⟩
  | 60 => ⟨S4096x1, .f32⟩
  | 61 => ⟨S4096x64, .f32⟩
  | 62 => ⟨S4096x64, .f32⟩
  | 63 => ⟨S_, .f32⟩
  | 64 => ⟨S4096x64, .f32⟩
  | 65 => ⟨S4096x64, .f32⟩
  | 66 => ⟨S4096x64, .f32⟩
  | _ => ⟨S4096x4096, .f32⟩

abbrev hbmTy (i : Nat) : BufTy := match i / 128 with
  | 0 => hbmTy0_0 i
  | 1 => hbmTy0_1 i
  | 2 => hbmTy0_2 i
  | _ => ⟨S4096x4096, .f32⟩

abbrev bufTy : (tb : Table) → Fin (tcTables nBuf tb) → BufTy
  | .hbm, ⟨i, _⟩ => hbmTy i
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_cst : Ref sig .tc := ⟨.hbm, 25, rfl⟩
abbrev main_call0_cst : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_cst_0 : Ref sig .tc := ⟨.hbm, 37, rfl⟩
abbrev main_call1_cst : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_v9 : Ref sig .tc := ⟨.hbm, 44, rfl⟩
abbrev main_v10 : Ref sig .tc := ⟨.hbm, 45, rfl⟩
abbrev main_v11 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_cst_1 : Ref sig .tc := ⟨.hbm, 55, rfl⟩
abbrev main_call2_cst : Ref sig .tc := ⟨.hbm, 56, rfl⟩
abbrev main_call2_v0 : Ref sig .tc := ⟨.hbm, 57, rfl⟩
abbrev main_call2_v1 : Ref sig .tc := ⟨.hbm, 58, rfl⟩
abbrev main_call2_v2 : Ref sig .tc := ⟨.hbm, 59, rfl⟩
abbrev main_call2_v3 : Ref sig .tc := ⟨.hbm, 60, rfl⟩
abbrev main_call2_v4 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_v24 : Ref sig .tc := ⟨.hbm, 66, rfl⟩
abbrev main_cst_2 : Ref sig .tc := ⟨.hbm, 67, rfl⟩
abbrev main_call3_cst : Ref sig .tc := ⟨.hbm, 68, rfl⟩
abbrev main_call3_v0 : Ref sig .tc := ⟨.hbm, 69, rfl⟩
abbrev main_call3_v1 : Ref sig .tc := ⟨.hbm, 70, rfl⟩
abbrev main_call3_v2 : Ref sig .tc := ⟨.hbm, 71, rfl⟩
abbrev main_call3_v3 : Ref sig .tc := ⟨.hbm, 72, rfl⟩
abbrev main_call3_v4 : Ref sig .tc := ⟨.hbm, 73, rfl⟩
abbrev main_v25 : Ref sig .tc := ⟨.hbm, 74, rfl⟩
abbrev main_v26 : Ref sig .tc := ⟨.hbm, 75, rfl⟩
abbrev main_v27 : Ref sig .tc := ⟨.hbm, 76, rfl⟩
abbrev main_v28 : Ref sig .tc := ⟨.hbm, 77, rfl⟩
abbrev main_v29 : Ref sig .tc := ⟨.hbm, 78, rfl⟩
abbrev main_v30 : Ref sig .tc := ⟨.hbm, 79, rfl⟩
abbrev main_v31 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_v35 : Ref sig .tc := ⟨.hbm, 84, rfl⟩
abbrev main_v36 : Ref sig .tc := ⟨.hbm, 85, rfl⟩
abbrev main_v37 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_v43 : Ref sig .tc := ⟨.hbm, 92, rfl⟩
abbrev main_cst_3 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_cst_4 : Ref sig .tc := ⟨.hbm, 97, rfl⟩
abbrev main_v47 : Ref sig .tc := ⟨.hbm, 98, rfl⟩
abbrev main_v48 : Ref sig .tc := ⟨.hbm, 99, rfl⟩
abbrev main_cst_5 : Ref sig .tc := ⟨.hbm, 100, rfl⟩
abbrev main_v49 : Ref sig .tc := ⟨.hbm, 101, rfl⟩
abbrev main_cst_6 : Ref sig .tc := ⟨.hbm, 102, rfl⟩
abbrev main_v50 : Ref sig .tc := ⟨.hbm, 103, rfl⟩
abbrev main_v51 : Ref sig .tc := ⟨.hbm, 104, rfl⟩
abbrev main_v52 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_cst_7 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩
abbrev main_v59 : Ref sig .tc := ⟨.hbm, 113, rfl⟩
abbrev main_v60 : Ref sig .tc := ⟨.hbm, 114, rfl⟩
abbrev main_v61 : Ref sig .tc := ⟨.hbm, 115, rfl⟩
abbrev main_v62 : Ref sig .tc := ⟨.hbm, 116, rfl⟩
abbrev main_v63 : Ref sig .tc := ⟨.hbm, 117, rfl⟩
abbrev main_cst_8 : Ref sig .tc := ⟨.hbm, 118, rfl⟩
abbrev main_v64 : Ref sig .tc := ⟨.hbm, 119, rfl⟩
abbrev main_v65 : Ref sig .tc := ⟨.hbm, 120, rfl⟩
abbrev main_v66 : Ref sig .tc := ⟨.hbm, 121, rfl⟩
abbrev main_v67 : Ref sig .tc := ⟨.hbm, 122, rfl⟩
abbrev main_v68 : Ref sig .tc := ⟨.hbm, 123, rfl⟩
abbrev main_v69 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_v76 : Ref sig .tc := ⟨.hbm, 131, rfl⟩
abbrev main_v77 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_v83 : Ref sig .tc := ⟨.hbm, 138, rfl⟩
abbrev main_v84 : Ref sig .tc := ⟨.hbm, 139, rfl⟩
abbrev main_v85 : Ref sig .tc := ⟨.hbm, 140, rfl⟩
abbrev main_v86 : Ref sig .tc := ⟨.hbm, 141, rfl⟩
abbrev main_cst_9 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_cst_10 : Ref sig .tc := ⟨.hbm, 146, rfl⟩
abbrev main_v90 : Ref sig .tc := ⟨.hbm, 147, rfl⟩
abbrev main_v91 : Ref sig .tc := ⟨.hbm, 148, rfl⟩
abbrev main_cst_11 : Ref sig .tc := ⟨.hbm, 149, rfl⟩
abbrev main_v92 : Ref sig .tc := ⟨.hbm, 150, rfl⟩
abbrev main_cst_12 : Ref sig .tc := ⟨.hbm, 151, rfl⟩
abbrev main_v93 : Ref sig .tc := ⟨.hbm, 152, rfl⟩
abbrev main_v94 : Ref sig .tc := ⟨.hbm, 153, rfl⟩
abbrev main_v95 : Ref sig .tc := ⟨.hbm, 154, rfl⟩
abbrev main_v96 : Ref sig .tc := ⟨.hbm, 155, rfl⟩
abbrev main_v97 : Ref sig .tc := ⟨.hbm, 156, rfl⟩
abbrev main_v98 : Ref sig .tc := ⟨.hbm, 157, rfl⟩
abbrev main_cst_13 : Ref sig .tc := ⟨.hbm, 158, rfl⟩
abbrev main_v99 : Ref sig .tc := ⟨.hbm, 159, rfl⟩
abbrev main_v100 : Ref sig .tc := ⟨.hbm, 160, rfl⟩
abbrev main_v101 : Ref sig .tc := ⟨.hbm, 161, rfl⟩
abbrev main_v102 : Ref sig .tc := ⟨.hbm, 162, rfl⟩
abbrev main_v103 : Ref sig .tc := ⟨.hbm, 163, rfl⟩
abbrev main_v104 : Ref sig .tc := ⟨.hbm, 164, rfl⟩
abbrev main_v105 : Ref sig .tc := ⟨.hbm, 165, rfl⟩
abbrev main_v106 : Ref sig .tc := ⟨.hbm, 166, rfl⟩
abbrev main_cst_14 : Ref sig .tc := ⟨.hbm, 167, rfl⟩
abbrev main_v107 : Ref sig .tc := ⟨.hbm, 168, rfl⟩
abbrev main_v108 : Ref sig .tc := ⟨.hbm, 169, rfl⟩
abbrev main_v109 : Ref sig .tc := ⟨.hbm, 170, rfl⟩
abbrev main_v110 : Ref sig .tc := ⟨.hbm, 171, rfl⟩
abbrev main_v111 : Ref sig .tc := ⟨.hbm, 172, rfl⟩
abbrev main_v112 : Ref sig .tc := ⟨.hbm, 173, rfl⟩
abbrev main_v113 : Ref sig .tc := ⟨.hbm, 174, rfl⟩
abbrev main_v114 : Ref sig .tc := ⟨.hbm, 175, rfl⟩
abbrev main_v115 : Ref sig .tc := ⟨.hbm, 176, rfl⟩
abbrev main_v116 : Ref sig .tc := ⟨.hbm, 177, rfl⟩
abbrev main_v117 : Ref sig .tc := ⟨.hbm, 178, rfl⟩
abbrev main_cst_15 : Ref sig .tc := ⟨.hbm, 179, rfl⟩
abbrev main_v118 : Ref sig .tc := ⟨.hbm, 180, rfl⟩
abbrev main_cst_16 : Ref sig .tc := ⟨.hbm, 181, rfl⟩
abbrev main_v119 : Ref sig .tc := ⟨.hbm, 182, rfl⟩
abbrev main_v120 : Ref sig .tc := ⟨.hbm, 183, rfl⟩
abbrev main_cst_17 : Ref sig .tc := ⟨.hbm, 184, rfl⟩
abbrev main_v121 : Ref sig .tc := ⟨.hbm, 185, rfl⟩
abbrev main_cst_18 : Ref sig .tc := ⟨.hbm, 186, rfl⟩
abbrev main_v122 : Ref sig .tc := ⟨.hbm, 187, rfl⟩
abbrev main_v123 : Ref sig .tc := ⟨.hbm, 188, rfl⟩
abbrev main_v124 : Ref sig .tc := ⟨.hbm, 189, rfl⟩
abbrev main_cst_19 : Ref sig .tc := ⟨.hbm, 190, rfl⟩
abbrev main_v125 : Ref sig .tc := ⟨.hbm, 191, rfl⟩
abbrev main_v126 : Ref sig .tc := ⟨.hbm, 192, rfl⟩
abbrev main_v127 : Ref sig .tc := ⟨.hbm, 193, rfl⟩
abbrev main_cst_20 : Ref sig .tc := ⟨.hbm, 194, rfl⟩
abbrev main_v128 : Ref sig .tc := ⟨.hbm, 195, rfl⟩
abbrev main_v129 : Ref sig .tc := ⟨.hbm, 196, rfl⟩
abbrev main_v130 : Ref sig .tc := ⟨.hbm, 197, rfl⟩
abbrev main_v131 : Ref sig .tc := ⟨.hbm, 198, rfl⟩
abbrev main_cst_21 : Ref sig .tc := ⟨.hbm, 199, rfl⟩
abbrev main_v132 : Ref sig .tc := ⟨.hbm, 200, rfl⟩
abbrev main_v133 : Ref sig .tc := ⟨.hbm, 201, rfl⟩
abbrev main_v134 : Ref sig .tc := ⟨.hbm, 202, rfl⟩
abbrev main_v135 : Ref sig .tc := ⟨.hbm, 203, rfl⟩
abbrev main_cst_22 : Ref sig .tc := ⟨.hbm, 204, rfl⟩
abbrev main_v136 : Ref sig .tc := ⟨.hbm, 205, rfl⟩
abbrev main_v137 : Ref sig .tc := ⟨.hbm, 206, rfl⟩
abbrev main_v138 : Ref sig .tc := ⟨.hbm, 207, rfl⟩
abbrev main_cst_23 : Ref sig .tc := ⟨.hbm, 208, rfl⟩
abbrev main_v139 : Ref sig .tc := ⟨.hbm, 209, rfl⟩
abbrev main_v140 : Ref sig .tc := ⟨.hbm, 210, rfl⟩
abbrev main_v141 : Ref sig .tc := ⟨.hbm, 211, rfl⟩
abbrev main_v142 : Ref sig .tc := ⟨.hbm, 212, rfl⟩
abbrev main_cst_24 : Ref sig .tc := ⟨.hbm, 213, rfl⟩
abbrev main_v143 : Ref sig .tc := ⟨.hbm, 214, rfl⟩
abbrev main_v144 : Ref sig .tc := ⟨.hbm, 215, rfl⟩
abbrev main_v145 : Ref sig .tc := ⟨.hbm, 216, rfl⟩
abbrev main_v146 : Ref sig .tc := ⟨.hbm, 217, rfl⟩
abbrev main_v147 : Ref sig .tc := ⟨.hbm, 218, rfl⟩
abbrev main_cst_25 : Ref sig .tc := ⟨.hbm, 219, rfl⟩
abbrev main_v148 : Ref sig .tc := ⟨.hbm, 220, rfl⟩
abbrev main_cst_26 : Ref sig .tc := ⟨.hbm, 221, rfl⟩
abbrev main_v149 : Ref sig .tc := ⟨.hbm, 222, rfl⟩
abbrev main_v150 : Ref sig .tc := ⟨.hbm, 223, rfl⟩
abbrev main_v151 : Ref sig .tc := ⟨.hbm, 224, rfl⟩
abbrev main_v152 : Ref sig .tc := ⟨.hbm, 225, rfl⟩
abbrev main_v153 : Ref sig .tc := ⟨.hbm, 226, rfl⟩
abbrev main_v154 : Ref sig .tc := ⟨.hbm, 227, rfl⟩
abbrev main_cst_27 : Ref sig .tc := ⟨.hbm, 228, rfl⟩
abbrev main_v155 : Ref sig .tc := ⟨.hbm, 229, rfl⟩
abbrev main_v156 : Ref sig .tc := ⟨.hbm, 230, rfl⟩
abbrev main_v157 : Ref sig .tc := ⟨.hbm, 231, rfl⟩
abbrev main_v158 : Ref sig .tc := ⟨.hbm, 232, rfl⟩
abbrev main_cst_28 : Ref sig .tc := ⟨.hbm, 233, rfl⟩
abbrev main_v159 : Ref sig .tc := ⟨.hbm, 234, rfl⟩
abbrev main_cst_29 : Ref sig .tc := ⟨.hbm, 235, rfl⟩
abbrev main_v160 : Ref sig .tc := ⟨.hbm, 236, rfl⟩
abbrev main_v161 : Ref sig .tc := ⟨.hbm, 237, rfl⟩
abbrev main_v162 : Ref sig .tc := ⟨.hbm, 238, rfl⟩
abbrev main_v163 : Ref sig .tc := ⟨.hbm, 239, rfl⟩
abbrev main_v164 : Ref sig .tc := ⟨.hbm, 240, rfl⟩
abbrev main_v165 : Ref sig .tc := ⟨.hbm, 241, rfl⟩
abbrev main_cst_30 : Ref sig .tc := ⟨.hbm, 242, rfl⟩
abbrev main_v166 : Ref sig .tc := ⟨.hbm, 243, rfl⟩
abbrev main_v167 : Ref sig .tc := ⟨.hbm, 244, rfl⟩
abbrev main_v168 : Ref sig .tc := ⟨.hbm, 245, rfl⟩
abbrev main_v169 : Ref sig .tc := ⟨.hbm, 246, rfl⟩
abbrev main_v170 : Ref sig .tc := ⟨.hbm, 247, rfl⟩
abbrev main_v171 : Ref sig .tc := ⟨.hbm, 248, rfl⟩
abbrev main_v172 : Ref sig .tc := ⟨.hbm, 249, rfl⟩
abbrev main_v173 : Ref sig .tc := ⟨.hbm, 250, rfl⟩
abbrev main_v174 : Ref sig .tc := ⟨.hbm, 251, rfl⟩
abbrev main_v175 : Ref sig .tc := ⟨.hbm, 252, rfl⟩
abbrev main_cst_31 : Ref sig .tc := ⟨.hbm, 253, rfl⟩
abbrev main_v176 : Ref sig .tc := ⟨.hbm, 254, rfl⟩
abbrev main_cst_32 : Ref sig .tc := ⟨.hbm, 255, rfl⟩
abbrev main_v177 : Ref sig .tc := ⟨.hbm, 256, rfl⟩
abbrev main_v178 : Ref sig .tc := ⟨.hbm, 257, rfl⟩
abbrev main_v179 : Ref sig .tc := ⟨.hbm, 258, rfl⟩
abbrev main_v180 : Ref sig .tc := ⟨.hbm, 259, rfl⟩
abbrev main_v181 : Ref sig .tc := ⟨.hbm, 260, rfl⟩
abbrev main_v182 : Ref sig .tc := ⟨.hbm, 261, rfl⟩
abbrev main_cst_33 : Ref sig .tc := ⟨.hbm, 262, rfl⟩
abbrev main_v183 : Ref sig .tc := ⟨.hbm, 263, rfl⟩
abbrev main_cst_34 : Ref sig .tc := ⟨.hbm, 264, rfl⟩
abbrev main_v184 : Ref sig .tc := ⟨.hbm, 265, rfl⟩
abbrev main_v185 : Ref sig .tc := ⟨.hbm, 266, rfl⟩
abbrev main_v186 : Ref sig .tc := ⟨.hbm, 267, rfl⟩
abbrev main_cst_35 : Ref sig .tc := ⟨.hbm, 268, rfl⟩
abbrev main_v187 : Ref sig .tc := ⟨.hbm, 269, rfl⟩
abbrev main_v188 : Ref sig .tc := ⟨.hbm, 270, rfl⟩
abbrev main_v189 : Ref sig .tc := ⟨.hbm, 271, rfl⟩
abbrev main_cst_36 : Ref sig .tc := ⟨.hbm, 272, rfl⟩
abbrev main_v190 : Ref sig .tc := ⟨.hbm, 273, rfl⟩
abbrev main_v191 : Ref sig .tc := ⟨.hbm, 274, rfl⟩
abbrev main_v192 : Ref sig .tc := ⟨.hbm, 275, rfl⟩
abbrev main_v193 : Ref sig .tc := ⟨.hbm, 276, rfl⟩
abbrev main_cst_37 : Ref sig .tc := ⟨.hbm, 277, rfl⟩
abbrev main_v194 : Ref sig .tc := ⟨.hbm, 278, rfl⟩
abbrev main_v195 : Ref sig .tc := ⟨.hbm, 279, rfl⟩
abbrev main_v196 : Ref sig .tc := ⟨.hbm, 280, rfl⟩
abbrev main_v197 : Ref sig .tc := ⟨.hbm, 281, rfl⟩
abbrev main_cst_38 : Ref sig .tc := ⟨.hbm, 282, rfl⟩
abbrev main_v198 : Ref sig .tc := ⟨.hbm, 283, rfl⟩
abbrev main_v199 : Ref sig .tc := ⟨.hbm, 284, rfl⟩
abbrev main_v200 : Ref sig .tc := ⟨.hbm, 285, rfl⟩
abbrev main_cst_39 : Ref sig .tc := ⟨.hbm, 286, rfl⟩
abbrev main_v201 : Ref sig .tc := ⟨.hbm, 287, rfl⟩
abbrev main_v202 : Ref sig .tc := ⟨.hbm, 288, rfl⟩
abbrev main_v203 : Ref sig .tc := ⟨.hbm, 289, rfl⟩
abbrev main_v204 : Ref sig .tc := ⟨.hbm, 290, rfl⟩
abbrev main_cst_40 : Ref sig .tc := ⟨.hbm, 291, rfl⟩
abbrev main_v205 : Ref sig .tc := ⟨.hbm, 292, rfl⟩
abbrev main_v206 : Ref sig .tc := ⟨.hbm, 293, rfl⟩
abbrev main_v207 : Ref sig .tc := ⟨.hbm, 294, rfl⟩
abbrev main_v208 : Ref sig .tc := ⟨.hbm, 295, rfl⟩
abbrev main_cst_41 : Ref sig .tc := ⟨.hbm, 296, rfl⟩
abbrev main_v209 : Ref sig .tc := ⟨.hbm, 297, rfl⟩
abbrev main_v210 : Ref sig .tc := ⟨.hbm, 298, rfl⟩
abbrev main_v211 : Ref sig .tc := ⟨.hbm, 299, rfl⟩
abbrev main_cst_42 : Ref sig .tc := ⟨.hbm, 300, rfl⟩
abbrev main_v212 : Ref sig .tc := ⟨.hbm, 301, rfl⟩
abbrev main_v213 : Ref sig .tc := ⟨.hbm, 302, rfl⟩
abbrev main_v214 : Ref sig .tc := ⟨.hbm, 303, rfl⟩
abbrev main_v215 : Ref sig .tc := ⟨.hbm, 304, rfl⟩
abbrev main_cst_43 : Ref sig .tc := ⟨.hbm, 305, rfl⟩
abbrev main_v216 : Ref sig .tc := ⟨.hbm, 306, rfl⟩
abbrev main_v217 : Ref sig .tc := ⟨.hbm, 307, rfl⟩
abbrev main_v218 : Ref sig .tc := ⟨.hbm, 308, rfl⟩
abbrev main_v219 : Ref sig .tc := ⟨.hbm, 309, rfl⟩
abbrev main_cst_44 : Ref sig .tc := ⟨.hbm, 310, rfl⟩
abbrev main_v220 : Ref sig .tc := ⟨.hbm, 311, rfl⟩
abbrev main_v221 : Ref sig .tc := ⟨.hbm, 312, rfl⟩
abbrev main_v222 : Ref sig .tc := ⟨.hbm, 313, rfl⟩
abbrev main_cst_45 : Ref sig .tc := ⟨.hbm, 314, rfl⟩
abbrev main_v223 : Ref sig .tc := ⟨.hbm, 315, rfl⟩
abbrev main_v224 : Ref sig .tc := ⟨.hbm, 316, rfl⟩
abbrev main_v225 : Ref sig .tc := ⟨.hbm, 317, rfl⟩
abbrev main_v226 : Ref sig .tc := ⟨.hbm, 318, rfl⟩
abbrev main_cst_46 : Ref sig .tc := ⟨.hbm, 319, rfl⟩
abbrev main_v227 : Ref sig .tc := ⟨.hbm, 320, rfl⟩
abbrev main_v228 : Ref sig .tc := ⟨.hbm, 321, rfl⟩
abbrev main_v229 : Ref sig .tc := ⟨.hbm, 322, rfl⟩

abbrev nD : Nat := 1
abbrev τ : Topo := Topo.v7x

variable {F : FTy → Type} [FloatOps F]
-- ==== Proof.Encode.lean ====
/- The first call of the kernel: what one grid point of it computes, and that its body runs.
   Everything is stated at a parameter `V`, the contents of the core's buffers when the call is entered, and at any `F`. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when a region is entered: the parameter every region's half is stated at, which
-- the run instantiates per region
variable (V : (c : Dev nD) → (b : Ref sig .tc) → Buf (Elt F) ((c : Thread nD τ).loc b))

/-! # The first call, at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's buffer holds its block at every point, for any proof data over `V` whose body leaves it in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's buffer holds its block at every point, for any proof data over `V` whose body leaves it in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's buffer holds its block at every point, for any proof data over `V` whose body leaves it in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's buffer holds its block at every point, for any proof data over `V` whose body leaves it in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's buffer holds its block at every point, for any proof data over `V` whose body leaves it in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's buffer holds its block at every point, for any proof data over `V` whose body leaves it in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's buffer holds its block at every point, for any proof data over `V` whose body leaves it in place. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
/-- Input window 7's buffer holds its block at every point, for any proof data over `V` whose body leaves it in place. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
/-- Input window 8's buffer holds its block at every point, for any proof data over `V` whose body leaves it in place. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)
/-- Input window 9's buffer holds its block at every point, for any proof data over `V` whose body leaves it in place. -/
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)
/-- Input window 10's buffer holds its block at every point, for any proof data over `V` whose body leaves it in place. -/
theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)
/-- Input window 11's buffer holds its block at every point, for any proof data over `V` whose body leaves it in place. -/
theorem before0_11_of {c : Dev nD} (dat : Dat τ (Elt F) Unit ℕ (UR sig nD τ) ℕ cfg0 c) (hA : dat.A 11 = V c (Pipeline.arrRef spec0 11))
    (hafter : ∀ t, dat.after 11 t = iblk0 V c 11 t) (t : Fin cfg0.N) (d) : dat.before 11 t d = iblk0 V c 11 t :=
  (dat.before_in_eq_fetched 11 rfl (fun _ => rfl) (fun _ _ _ => rfl) (fun t => by rw [hafter]; unfold Dat.blockOf iblk0; rw [hA]; try rfl) t d).trans
    (by unfold Dat.fetched Dat.blockOf iblk0; rw [hA]; try rfl)
/-- Input window 12's buffer holds its block at every point, for any proof data over `V` whose body leaves it in place. -/
theorem before0_12_of {c : Dev nD} (dat : Dat τ (Elt F) Unit ℕ (UR sig nD τ) ℕ cfg0 c) (hA : dat.A 12 = V c (Pipeline.arrRef spec0 12))
    (hafter : ∀ t, dat.after 12 t = iblk0 V c 12 t) (t : Fin cfg0.N) (d) : dat.before 12 t d = iblk0 V c 12 t :=
  (dat.before_in_eq_fetched 12 rfl (fun _ => rfl) (fun _ _ _ => rfl) (fun t => by rw [hafter]; unfold Dat.blockOf iblk0; rw [hA]; try rfl) t d).trans
    (by unfold Dat.fetched Dat.blockOf iblk0; rw [hA]; try rfl)
/-- Input window 13's buffer holds its block at every point, for any proof data over `V` whose body leaves it in place. -/
theorem before0_13_of {c : Dev nD} (dat : Dat τ (Elt F) Unit ℕ (UR sig nD τ) ℕ cfg0 c) (hA : dat.A 13 = V c (Pipeline.arrRef spec0 13))
    (hafter : ∀ t, dat.after 13 t = iblk0 V c 13 t) (t : Fin cfg0.N) (d) : dat.before 13 t d = iblk0 V c 13 t :=
  (dat.before_in_eq_fetched 13 rfl (fun _ => rfl) (fun _ _ _ => rfl) (fun t => by rw [hafter]; unfold Dat.blockOf iblk0; rw [hA]; try rfl) t d).trans
    (by unfold Dat.fetched Dat.blockOf iblk0; rw [hA]; try rfl)
/-- Input window 14's buffer holds its block at every point, for any proof data over `V` whose body leaves it in place. -/
theorem before0_14_of {c : Dev nD} (dat : Dat τ (Elt F) Unit ℕ (UR sig nD τ) ℕ cfg0 c) (hA : dat.A 14 = V c (Pipeline.arrRef spec0 14))
    (hafter : ∀ t, dat.after 14 t = iblk0 V c 14 t) (t : Fin cfg0.N) (d) : dat.before 14 t d = iblk0 V c 14 t :=
  (dat.before_in_eq_fetched 14 rfl (fun _ => rfl) (fun _ _ _ => rfl) (fun t => by rw [hafter]; unfold Dat.blockOf iblk0; rw [hA]; try rfl) t d).trans
    (by unfold Dat.fetched Dat.blockOf iblk0; rw [hA]; try rfl)
/-- Input window 15's buffer holds its block at every point, for any proof data over `V` whose body leaves it in place. -/
theorem before0_15_of {c : Dev nD} (dat : Dat τ (Elt F) Unit ℕ (UR sig nD τ) ℕ cfg0 c) (hA : dat.A 15 = V c (Pipeline.arrRef spec0 15))
    (hafter : ∀ t, dat.after 15 t = iblk0 V c 15 t) (t : Fin cfg0.N) (d) : dat.before 15 t d = iblk0 V c 15 t :=
  (dat.before_in_eq_fetched 15 rfl (fun _ => rfl) (fun _ _ _ => rfl) (fun t => by rw [hafter]; unfold Dat.blockOf iblk0; rw [hA]; try rfl) t d).trans
    (by unfold Dat.fetched Dat.blockOf iblk0; rw [hA]; try rfl)
/-- Input window 16's buffer holds its block at every point, for any proof data over `V` whose body leaves it in place. -/
theorem before0_16_of {c : Dev nD} (dat : Dat τ (Elt F) Unit ℕ (UR sig nD τ) ℕ cfg0 c) (hA : dat.A 16 = V c (Pipeline.arrRef spec0 16))
    (hafter : ∀ t, dat.after 16 t = iblk0 V c 16 t) (t : Fin cfg0.N) (d) : dat.before 16 t d = iblk0 V c 16 t :=
  (dat.before_in_eq_fetched 16 rfl (fun _ => rfl) (fun _ _ _ => rfl) (fun t => by rw [hafter]; unfold Dat.blockOf iblk0; rw [hA]; try rfl) t d).trans
    (by unfold Dat.fetched Dat.blockOf iblk0; rw [hA]; try rfl)
/-- Input window 17's buffer holds its block at every point, for any proof data over `V` whose body leaves it in place. -/
theorem before0_17_of {c : Dev nD} (dat : Dat τ (Elt F) Unit ℕ (UR sig nD τ) ℕ cfg0 c) (hA : dat.A 17 = V c (Pipeline.arrRef spec0 17))
    (hafter : ∀ t, dat.after 17 t = iblk0 V c 17 t) (t : Fin cfg0.N) (d) : dat.before 17 t d = iblk0 V c 17 t :=
  (dat.before_in_eq_fetched 17 rfl (fun _ => rfl) (fun _ _ _ => rfl) (fun t => by rw [hafter]; unfold Dat.blockOf iblk0; rw [hA]; try rfl) t d).trans
    (by unfold Dat.fetched Dat.blockOf iblk0; rw [hA]; try rfl)
/-- Input window 18's buffer holds its block at every point, for any proof data over `V` whose body leaves it in place. -/
theorem before0_18_of {c : Dev nD} (dat : Dat τ (Elt F) Unit ℕ (UR sig nD τ) ℕ cfg0 c) (hA : dat.A 18 = V c (Pipeline.arrRef spec0 18))
    (hafter : ∀ t, dat.after 18 t = iblk0 V c 18 t) (t : Fin cfg0.N) (d) : dat.before 18 t d = iblk0 V c 18 t :=
  (dat.before_in_eq_fetched 18 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S256x64 := Rect.unit (s := S256x64) ![0, 0] S256x64.size inb_S256x64_S256x64_0_0
abbrev r0_1 : Rect S4096x64 := Rect.unit (s := S4096x64) ![0, 0] S4096x64.size inb_S4096x64_S4096x64_0_0
abbrev r0_2 : Rect S256x4096 := Rect.unit (s := S256x4096) ![0, 0] S256x4096.size inb_S256x4096_S256x4096_0_0
abbrev r0_3 : Rect S1x64 := Rect.unit (s := S1x64) ![0, 0] S1x64.size inb_S1x64_S1x64_0_0
abbrev r0_4 : Rect S64x64 := Rect.unit (s := S64x64) ![0, 0] S64x64.size inb_S64x64_S64x64_0_0
abbrev r0_5 : Rect S256x128 := Rect.unit (s := S256x128) ![0, 0] S256x64.size inb_S256x128_S256x64_0_0
abbrev r0_6 : Rect S256x384 := Rect.unit (s := S256x384) ![0, 0] S256x384.size inb_S256x384_S256x384_0_0
abbrev r0_7 : Rect S384x64 := Rect.unit (s := S384x64) ![0, 0] S384x64.size inb_S384x64_S384x64_0_0
abbrev r0_8 : Rect S256x128 := Rect.unit (s := S256x128) ![0, 64] S256x64.size inb_S256x128_S256x64_0_64

/-! ## What the body leaves in each output window's buffer -/

/-- Window 19's staging buffer after the body, from the input windows' blocks: its 1 store as pieces, LAST
    FIRST (`View.canon`; the payloads are named in the generated skeleton). -/
def out0_19 (x0 : Vec F S256x4096 .f32) (x1 : Vec F S256x4096 .f32) (x2 : Vec F S256x4096 .f32) (x3 : Vec F S256x4096 .f32) (x4 : Vec F S256x4096 .f32) (x5 : Vec F S256x384 .f32) (x6 : Vec F S4096x64 .f32) (x7 : Vec F S4096x64 .f32) (x8 : Vec F S256x64 .f32) (x9 : Vec F S256x64 .f32) (x10 : Vec F S256x64 .f32) (x11 : Vec F S4096x64 .f32) (x12 : Vec F S1x64 .f32) (x13 : Vec F S64x64 .f32) (x14 : Vec F S1x64 .f32) (x15 : Vec F S384x64 .f32) (x16 : Vec F S1x64 .f32) (x17 : Vec F S64x64 .f32) (x18 : Vec F S1x64 .f32) : Vec F S256x64 .f32 :=
  View.canon [⟨r0_0, k0_pay6 (k0_pay3 (View.ld x8 r0_0) (View.ld x6 r0_1) (View.ld x0 r0_2) (View.ld x1 r0_2)) (View.ld x9 r0_0) (k0_pay5 (View.ld x8 r0_0) (View.ld x6 r0_1) (View.ld x0 r0_2) (View.ld x1 r0_2))⟩]

/-- Its stores tile the buffer (checked by evaluation), so they cover it. -/
theorem cover0_19 (p0 : Vec F S256x64 .f32) (y : S256x64.Idx) :
    ∃ pc ∈ ([⟨r0_0, p0⟩] : List (View.Piece (Elt F) S256x64 .f32)), y ∈ pc.1.set :=
  View.cover_of_tiled [⟨r0_0, p0⟩] S256x64.size (by rfl) y

/-- Window 20's staging buffer after the body, from the input windows' blocks: its 1 store as pieces, LAST
    FIRST (`View.canon`; the payloads are named in the generated skeleton). -/
def out0_20 (x0 : Vec F S256x4096 .f32) (x1 : Vec F S256x4096 .f32) (x2 : Vec F S256x4096 .f32) (x3 : Vec F S256x4096 .f32) (x4 : Vec F S256x4096 .f32) (x5 : Vec F S256x384 .f32) (x6 : Vec F S4096x64 .f32) (x7 : Vec F S4096x64 .f32) (x8 : Vec F S256x64 .f32) (x9 : Vec F S256x64 .f32) (x10 : Vec F S256x64 .f32) (x11 : Vec F S4096x64 .f32) (x12 : Vec F S1x64 .f32) (x13 : Vec F S64x64 .f32) (x14 : Vec F S1x64 .f32) (x15 : Vec F S384x64 .f32) (x16 : Vec F S1x64 .f32) (x17 : Vec F S64x64 .f32) (x18 : Vec F S1x64 .f32) : Vec F S256x64 .f32 :=
  View.canon [⟨r0_0, k0_pay7 (k0_pay4 (View.ld x8 r0_0) (View.ld x7 r0_1) (View.ld x2 r0_2) (View.ld x3 r0_2)) (View.ld x10 r0_0)⟩]

/-- Its stores tile the buffer (checked by evaluation), so they cover it. -/
theorem cover0_20 (p0 : Vec F S256x64 .f32) (y : S256x64.Idx) :
    ∃ pc ∈ ([⟨r0_0, p0⟩] : List (View.Piece (Elt F) S256x64 .f32)), y ∈ pc.1.set :=
  View.cover_of_tiled [⟨r0_0, p0⟩] S256x64.size (by rfl) y

/-- Window 21's staging buffer after the body, from the input windows' blocks: its 2 stores as pieces, LAST
    FIRST (`View.canon`; the payloads are named in the generated skeleton). -/
def out0_21 (x0 : Vec F S256x4096 .f32) (x1 : Vec F S256x4096 .f32) (x2 : Vec F S256x4096 .f32) (x3 : Vec F S256x4096 .f32) (x4 : Vec F S256x4096 .f32) (x5 : Vec F S256x384 .f32) (x6 : Vec F S4096x64 .f32) (x7 : Vec F S4096x64 .f32) (x8 : Vec F S256x64 .f32) (x9 : Vec F S256x64 .f32) (x10 : Vec F S256x64 .f32) (x11 : Vec F S4096x64 .f32) (x12 : Vec F S1x64 .f32) (x13 : Vec F S64x64 .f32) (x14 : Vec F S1x64 .f32) (x15 : Vec F S384x64 .f32) (x16 : Vec F S1x64 .f32) (x17 : Vec F S64x64 .f32) (x18 : Vec F S1x64 .f32) : Vec F S256x128 .bf16 :=
  View.canon [⟨r0_8, k0_pay1 (k0_pay10 (View.ld x5 r0_6) (View.ld x15 r0_7) (View.ld x16 r0_3) (View.ld x17 r0_4) (View.ld x18 r0_3)) (Scalar.ofBits .f32 0x00000000#32)⟩,
    ⟨r0_5, k0_pay9 (k0_pay8 (View.ld x4 r0_2) (View.ld x11 r0_1) (View.ld x12 r0_3)) (View.ld x13 r0_4) (View.ld x14 r0_3)⟩]

/-- Its stores tile the buffer (checked by evaluation), so they cover it. -/
theorem cover0_21 (p0 : Vec F S256x64 .bf16) (p1 : Vec F S256x64 .bf16) (y : S256x128.Idx) :
    ∃ pc ∈ ([⟨r0_8, p0⟩, ⟨r0_5, p1⟩] : List (View.Piece (Elt F) S256x128 .bf16)), y ∈ pc.1.set :=
  View.cover_of_tiled [⟨r0_8, p0⟩, ⟨r0_5, p1⟩] S256x64.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs through every part call. -/
theorem sound_kernel0 (c : Dev nD) (E : Set ℕ) (i : grid0.Coords) (arg1 : Memref sig .tc .vmem S256x4096 .f32) (harg1 : arg1.IsWhole) (arg2 : Memref sig .tc .vmem S256x4096 .f32) (harg2 : arg2.IsWhole) (arg3 : Memref sig .tc .vmem S256x4096 .f32) (harg3 : arg3.IsWhole) (arg4 : Memref sig .tc .vmem S256x4096 .f32) (harg4 : arg4.IsWhole) (arg5 : Memref sig .tc .vmem S256x4096 .f32) (harg5 : arg5.IsWhole) (arg6 : Memref sig .tc .vmem S256x384 .f32) (harg6 : arg6.IsWhole) (arg7 : Memref sig .tc .vmem S4096x64 .f32) (harg7 : arg7.IsWhole) (arg8 : Memref sig .tc .vmem S4096x64 .f32) (harg8 : arg8.IsWhole) (arg9 : Memref sig .tc .vmem S256x64 .f32) (harg9 : arg9.IsWhole) (arg10 : Memref sig .tc .vmem S256x64 .f32) (harg10 : arg10.IsWhole) (arg11 : Memref sig .tc .vmem S256x64 .f32) (harg11 : arg11.IsWhole) (arg12 : Memref sig .tc .vmem S4096x64 .f32) (harg12 : arg12.IsWhole) (arg13 : Memref sig .tc .vmem S1x64 .f32) (harg13 : arg13.IsWhole) (arg14 : Memref sig .tc .vmem S64x64 .f32) (harg14 : arg14.IsWhole) (arg15 : Memref sig .tc .vmem S1x64 .f32) (harg15 : arg15.IsWhole) (arg16 : Memref sig .tc .vmem S384x64 .f32) (harg16 : arg16.IsWhole) (arg17 : Memref sig .tc .vmem S1x64 .f32) (harg17 : arg17.IsWhole) (arg18 : Memref sig .tc .vmem S64x64 .f32) (harg18 : arg18.IsWhole) (arg19 : Memref sig .tc .vmem S1x64 .f32) (harg19 : arg19.IsWhole) (arg20 : Memref sig .tc .vmem S256x64 .f32) (harg20 : arg20.IsWhole) (arg21 : Memref sig .tc .vmem S256x64 .f32) (harg21 : arg21.IsWhole) (arg22 : Memref sig .tc .vmem S256x128 .bf16) (harg22 : arg22.IsWhole)
    (x0 : Vec F S256x4096 .f32) (x1 : Vec F S256x4096 .f32) (x2 : Vec F S256x4096 .f32) (x3 : Vec F S256x4096 .f32) (x4 : Vec F S256x4096 .f32) (x5 : Vec F S256x384 .f32) (x6 : Vec F S4096x64 .f32) (x7 : Vec F S4096x64 .f32) (x8 : Vec F S256x64 .f32) (x9 : Vec F S256x64 .f32) (x10 : Vec F S256x64 .f32) (x11 : Vec F S4096x64 .f32) (x12 : Vec F S1x64 .f32) (x13 : Vec F S64x64 .f32) (x14 : Vec F S1x64 .f32) (x15 : Vec F S384x64 .f32) (x16 : Vec F S1x64 .f32) (x17 : Vec F S64x64 .f32) (x18 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ (∃ d, owns (c : Thread nD τ) arg20 fullShare d) ∗ (∃ d, owns (c : Thread nD τ) arg21 fullShare d) ∗ (∃ d, owns (c : Thread nD τ) arg22 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare (out0_19 x0 x1 x2 x3 x4 x5 x6 x7 x8 x9 x10 x11 x12 x13 x14 x15 x16 x17 x18) ∗ owns (c : Thread nD τ) arg21 fullShare (out0_20 x0 x1 x2 x3 x4 x5 x6 x7 x8 x9 x10 x11 x12 x13 x14 x15 x16 x17 x18) ∗ owns (c : Thread nD τ) arg22 fullShare (out0_21 x0 x1 x2 x3 x4 x5 x6 x7 x8 x9 x10 x11 x12 x13 x14 x15 x16 x17 x18)) -∗ K ⟨⟩))
      ⊢ wp frame (wpE (defs₀ (F := F)) Variants.none c none) E (cc0__id_enc_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  simp only [cc0__id_enc_body_eq_skeleton]; unfold cc0__id_enc_body_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%d19, %f19, -, H19⟩, ⟨%d20, %f20, -, H20⟩, ⟨%d21, %f21, -, H21⟩, Hk⟩
  subst hf0 hf1 hf2 hf3 hf4 hf5 hf6 hf7 hf8 hf9 hf10 hf11 hf12 hf13 hf14 hf15 hf16 hf17 hf18
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists _; isplitr
    swap; · iexact H19
    ipureintro
    exact View.read_writes_eq_canon _ _ _ (cover0_19 _)
  isplitl [H20]
  · iexists _; isplitr
    swap; · iexact H20
    ipureintro
    exact View.read_writes_eq_canon _ _ _ (cover0_20 _)
  iexists _; isplitr
  swap; · iexact H21
  ipureintro
  exact View.read_writes_eq_canon _ _ _ (cover0_21 _ _)

/-! ## The pipeline's proof data -/

/-- The proof data of pipeline 0 on core `c`: the arrays as the region finds them (`V`); after the body at
    point `t` each input's buffer at its block and each output's at `out0_W` of the input blocks; the invariant the
    class's (`ΦA`: the scoped rest and the generator register, untouched); nothing owed;
    each input's share of its array
    (`Pipeline.shareOf`: the full share of an array several windows stage, dealt among them). -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => iblk0 V c 12 t
    | ⟨13, _⟩ => iblk0 V c 13 t
    | ⟨14, _⟩ => iblk0 V c 14 t
    | ⟨15, _⟩ => iblk0 V c 15 t
    | ⟨16, _⟩ => iblk0 V c 16 t
    | ⟨17, _⟩ => iblk0 V c 17 t
    | ⟨18, _⟩ => iblk0 V c 18 t
    | ⟨19, _⟩ => out0_19 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t)
    | ⟨20, _⟩ => out0_20 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t)
    | ⟨21, _⟩ => out0_21 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t)
    | ⟨_ + 22, h⟩ => absurd h (Nat.not_lt.2 (Nat.le_add_left _ _))
  Φ _ := Pipeline.ΦA spec0 c
  q w := Pipeline.shareOf spec0 w
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = iblk0 V c 11 t := by dsimp only [dat0]
theorem after0_12 (c : Dev nD) (t : Fin cfg0.N) : (dat0 V c).after 12 t = iblk0 V c 12 t := by dsimp only [dat0]
theorem after0_13 (c : Dev nD) (t : Fin cfg0.N) : (dat0 V c).after 13 t = iblk0 V c 13 t := by dsimp only [dat0]
theorem after0_14 (c : Dev nD) (t : Fin cfg0.N) : (dat0 V c).after 14 t = iblk0 V c 14 t := by dsimp only [dat0]
theorem after0_15 (c : Dev nD) (t : Fin cfg0.N) : (dat0 V c).after 15 t = iblk0 V c 15 t := by dsimp only [dat0]
theorem after0_16 (c : Dev nD) (t : Fin cfg0.N) : (dat0 V c).after 16 t = iblk0 V c 16 t := by dsimp only [dat0]
theorem after0_17 (c : Dev nD) (t : Fin cfg0.N) : (dat0 V c).after 17 t = iblk0 V c 17 t := by dsimp only [dat0]
theorem after0_18 (c : Dev nD) (t : Fin cfg0.N) : (dat0 V c).after 18 t = iblk0 V c 18 t := by dsimp only [dat0]
theorem after0_19 (c : Dev nD) (t : Fin cfg0.N) : (dat0 V c).after 19 t = out0_19 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) := by dsimp only [dat0]
theorem after0_20 (c : Dev nD) (t : Fin cfg0.N) : (dat0 V c).after 20 t = out0_20 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) := by dsimp only [dat0]
theorem after0_21 (c : Dev nD) (t : Fin cfg0.N) : (dat0 V c).after 21 t = out0_21 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d
theorem before0_10 (c : Dev nD) (t : Fin cfg0.N) (d) : (dat0 V c).before 10 t d = iblk0 V c 10 t :=
  before0_10_of V (dat0 V c) (A_eq0 V c 10) (after0_10 V c) t d
theorem before0_11 (c : Dev nD) (t : Fin cfg0.N) (d) : (dat0 V c).before 11 t d = iblk0 V c 11 t :=
  before0_11_of V (dat0 V c) (A_eq0 V c 11) (after0_11 V c) t d
theorem before0_12 (c : Dev nD) (t : Fin cfg0.N) (d) : (dat0 V c).before 12 t d = iblk0 V c 12 t :=
  before0_12_of V (dat0 V c) (A_eq0 V c 12) (after0_12 V c) t d
theorem before0_13 (c : Dev nD) (t : Fin cfg0.N) (d) : (dat0 V c).before 13 t d = iblk0 V c 13 t :=
  before0_13_of V (dat0 V c) (A_eq0 V c 13) (after0_13 V c) t d
theorem before0_14 (c : Dev nD) (t : Fin cfg0.N) (d) : (dat0 V c).before 14 t d = iblk0 V c 14 t :=
  before0_14_of V (dat0 V c) (A_eq0 V c 14) (after0_14 V c) t d
theorem before0_15 (c : Dev nD) (t : Fin cfg0.N) (d) : (dat0 V c).before 15 t d = iblk0 V c 15 t :=
  before0_15_of V (dat0 V c) (A_eq0 V c 15) (after0_15 V c) t d
theorem before0_16 (c : Dev nD) (t : Fin cfg0.N) (d) : (dat0 V c).before 16 t d = iblk0 V c 16 t :=
  before0_16_of V (dat0 V c) (A_eq0 V c 16) (after0_16 V c) t d
theorem before0_17 (c : Dev nD) (t : Fin cfg0.N) (d) : (dat0 V c).before 17 t d = iblk0 V c 17 t :=
  before0_17_of V (dat0 V c) (A_eq0 V c 17) (after0_17 V c) t d
theorem before0_18 (c : Dev nD) (t : Fin cfg0.N) (d) : (dat0 V c).before 18 t d = iblk0 V c 18 t :=
  before0_18_of V (dat0 V c) (A_eq0 V c 18) (after0_18 V c) t d

/-! ## The body obligation, at a generic point -/

/-- What the body is called with at point `t` (`BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d))
    ∗ (∃ d, owns (c : Thread nD τ) (st0_13 t) fullShare ((dat0 V c).before 13 t d))
    ∗ (∃ d, owns (c : Thread nD τ) (st0_14 t) fullShare ((dat0 V c).before 14 t d))
    ∗ (∃ d, owns (c : Thread nD τ) (st0_15 t) fullShare ((dat0 V c).before 15 t d))
    ∗ (∃ d, owns (c : Thread nD τ) (st0_16 t) fullShare ((dat0 V c).before 16 t d))
    ∗ (∃ d, owns (c : Thread nD τ) (st0_17 t) fullShare ((dat0 V c).before 17 t d))
    ∗ (∃ d, owns (c : Thread nD τ) (st0_18 t) fullShare ((dat0 V c).before 18 t d))
    ∗ (∃ d, owns (c : Thread nD τ) (st0_19 t) fullShare ((dat0 V c).before 19 t d))
    ∗ (∃ d, owns (c : Thread nD τ) (st0_20 t) fullShare ((dat0 V c).before 20 t d))
    ∗ (∃ d, owns (c : Thread nD τ) (st0_21 t) fullShare ((dat0 V c).before 21 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t)
    ∗ owns (c : Thread nD τ) (st0_13 t) fullShare ((dat0 V c).after 13 t)
    ∗ owns (c : Thread nD τ) (st0_14 t) fullShare ((dat0 V c).after 14 t)
    ∗ owns (c : Thread nD τ) (st0_15 t) fullShare ((dat0 V c).after 15 t)
    ∗ owns (c : Thread nD τ) (st0_16 t) fullShare ((dat0 V c).after 16 t)
    ∗ owns (c : Thread nD τ) (st0_17 t) fullShare ((dat0 V c).after 17 t)
    ∗ owns (c : Thread nD τ) (st0_18 t) fullShare ((dat0 V c).after 18 t)
    ∗ owns (c : Thread nD τ) (st0_19 t) fullShare ((dat0 V c).after 19 t)
    ∗ owns (c : Thread nD τ) (st0_20 t) fullShare ((dat0 V c).after 20 t)
    ∗ owns (c : Thread nD τ) (st0_21 t) fullShare ((dat0 V c).after 21 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10, before0_11, before0_12, before0_13, before0_14, before0_15, before0_16, before0_17, before0_18]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
  iapply (sound_kernel0 c Set.univ (grid0.coords t) _ _ _ _ _ _ _ _ _ _ _ _ _ _ _ _ _ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexists _; iexact H19
  isplitl [H20]; · iexists _; iexact H20
  isplitl [H21]; · iexists _; iexact H21
  iintro ⟨H0, H1, H2, H3, H4, H5, H6, H7, H8, H9, H10, H11, H12, H13, H14, H15, H16, H17, H18, H19, H20, H21⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iexact H21

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (`triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Run

end
-- ==== Proof.Phases.lean ====
/- The second call of the kernel: what its body leaves behind at one grid point, in each of the five situations a
   point can be in. The body is a sequence of five guarded stretches; the guards depend on the grid point alone.
   Each theorem says which buffers the taken stretches read, which they change, and to what. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.VecWindow (window put)

variable {F : FTy → Type} [FloatOps F]

local notation "𝕄" => MT nD τ sig Unit (Elt F) ℕ (UR sig nD τ) ℕ

/-- The first guard: this is the first grid point. -/
abbrev first (i : grid1.Coords) : Prop :=
  (Scalar.cmpi .ne (Scalar.extui (Scalar.cmpi .eq (BitVec.ofNat 32 (i 0).val) 0#32)) 0#32) = 1#1

/-- A load of a whole memory reads its contents; the four sizes the body loads whole. -/
theorem whole_x (m : Memref sig .tc .vmem S512x4096 .f32) (f : m.view.ty.Contents (Elt F)) :
    m.view.readAt (Elt F) (Rect.unit ![0, 0] ![512, 4096] inb_S512x4096_S512x4096_0_0).toLoadRect f = m.view.read (Elt F) f :=
  View.readAt_full m.view f inb_S512x4096_S512x4096_0_0

theorem whole_r (m : Memref sig .tc .vmem S4096x192 .bf16) (f : m.view.ty.Contents (Elt F)) :
    m.view.readAt (Elt F) (Rect.unit ![0, 0] ![4096, 192] inb_S4096x192_S4096x192_0_0).toLoadRect f = m.view.read (Elt F) f :=
  View.readAt_full m.view f inb_S4096x192_S4096x192_0_0

theorem whole_h (m : Memref sig .tc .vmem S4096x128 .bf16) (f : m.view.ty.Contents (Elt F)) :
    m.view.readAt (Elt F) (Rect.unit ![0, 0] ![4096, 128] inb_S4096x128_S4096x128_0_0).toLoadRect f = m.view.read (Elt F) f :=
  View.readAt_full m.view f inb_S4096x128_S4096x128_0_0

theorem whole_u (m : Memref sig .tc .vmem S4096x64 .f32) (f : m.view.ty.Contents (Elt F)) :
    m.view.readAt (Elt F) (Rect.unit ![0, 0] ![4096, 64] inb_S4096x64_S4096x64_0_0).toLoadRect f = m.view.read (Elt F) f :=
  View.readAt_full m.view f inb_S4096x64_S4096x64_0_0

/-- Two stores side by side over the whole of a table leave the same contents, whatever was there before. -/
theorem put_both (s s' : Vec F S4096x192 .bf16) (p : Vec F S4096x128 .bf16) (q : Vec F S4096x64 .bf16) :
    put (put s ![0, 0] S4096x128.size p) ![0, 128] S4096x64.size q = put (put s' ![0, 0] S4096x128.size p) ![0, 128] S4096x64.size q := by
  funext y
  unfold put
  by_cases h : ∀ a, (![0, 128] : Fin 2 → ℕ) a ≤ y a ∧ (y a : ℕ) < (![0, 128] : Fin 2 → ℕ) a + S4096x64.size a
  · rw [dif_pos h, dif_pos h]
  · rw [dif_neg h, dif_neg h]
    have h' : ∀ a, (![0, 0] : Fin 2 → ℕ) a ≤ y a ∧ (y a : ℕ) < (![0, 0] : Fin 2 → ℕ) a + S4096x128.size a := by
      have h0 : (y 0 : ℕ) < 4096 := (y 0).isLt
      have h1 : (y 1 : ℕ) < 192 := (y 1).isLt
      have h2 : (y 1 : ℕ) < 128 := by
        by_contra hc
        apply h
        intro a
        fin_cases a
        · exact ⟨Nat.zero_le _, by show (y 0 : ℕ) < 0 + 4096; omega⟩
        · exact ⟨by show 128 ≤ (y 1 : ℕ); omega, by show (y 1 : ℕ) < 128 + 64; omega⟩
      intro a
      fin_cases a
      · exact ⟨Nat.zero_le _, by show (y 0 : ℕ) < 0 + 4096; omega⟩
      · exact ⟨Nat.zero_le _, by show (y 1 : ℕ) < 0 + 128; omega⟩
    rw [dif_pos h', dif_pos h']

/-- The table's contents after the two stores. -/
theorem both_read (m : Memref sig .tc .vmem S4096x192 .bf16) (f : m.view.ty.Contents (Elt F)) (p : Vec F S4096x128 .bf16) (q : Vec F S4096x64 .bf16) :
    m.view.read (Elt F) (m.view.writes (Elt F) f
        [⟨Rect.unit ![0, 128] ![4096, 64] inb_S4096x192_S4096x64_0_128, q⟩, ⟨Rect.unit ![0, 0] ![4096, 128] inb_S4096x192_S4096x128_0_0, p⟩])
      = put (put (m.view.read (Elt F) f) ![0, 0] S4096x128.size p) ![0, 128] S4096x64.size q := by
  have h1 := View.read_writes_cons_put m.view f inb_S4096x192_S4096x64_0_128 q [⟨Rect.unit ![0, 0] ![4096, 128] inb_S4096x192_S4096x128_0_0, p⟩] rfl
  have h2 := View.read_writes_cons_put m.view f inb_S4096x192_S4096x128_0_0 p [] rfl
  rw [h2] at h1
  exact h1

/-- A load of the whole table after the two stores. -/
theorem both (m : Memref sig .tc .vmem S4096x192 .bf16) (f : m.view.ty.Contents (Elt F)) (p : Vec F S4096x128 .bf16) (q : Vec F S4096x64 .bf16) :
    put (put (m.view.read (Elt F) f) ![0, 0] S4096x128.size p) ![0, 128] S4096x64.size q
      = m.view.readCov [⟨Rect.unit ![0, 128] ![4096, 64] inb_S4096x192_S4096x64_0_128, q⟩, ⟨Rect.unit ![0, 0] ![4096, 128] inb_S4096x192_S4096x128_0_0, p⟩]
          (Rect.unit ![0, 0] ![4096, 192] inb_S4096x192_S4096x192_0_0).toLoadRect := by
  unfold View.readCov
  rw [whole_r, both_read]
  exact put_both _ _ p q

/-- One store over the whole of a result block leaves what was stored. -/
theorem whole_o (m : Memref sig .tc .vmem S512x64 .f32) (f : m.view.ty.Contents (Elt F)) (w : Vec F S512x64 .f32) :
    m.view.read (Elt F) (m.view.writes (Elt F) f [⟨Rect.unit ![0, 0] ![512, 64] inb_S512x64_S512x64_0_0, w⟩]) = w :=
  View.read_writes_full m.view f inb_S512x64_S512x64_0_0 w []

section Runs
variable (c : Dev nD) (E : Set ℕ) (i : grid1.Coords)
  (arg1 : Memref sig .tc .vmem S512x4096 .f32) (harg1 : arg1.IsWhole)
  (arg2 : Memref sig .tc .vmem S512x4096 .f32) (harg2 : arg2.IsWhole)
  (arg3 : Memref sig .tc .vmem S4096x64 .f32) (harg3 : arg3.IsWhole)
  (arg4 : Memref sig .tc .vmem S4096x64 .f32) (harg4 : arg4.IsWhole)
  (arg5 : Memref sig .tc .vmem S4096x128 .bf16) (harg5 : arg5.IsWhole)
  (arg6 : Memref sig .tc .vmem S512x64 .f32) (harg6 : arg6.IsWhole)
  (arg7 : Memref sig .tc .vmem S512x64 .f32) (harg7 : arg7.IsWhole)
  (arg8 : Memref sig .tc .vmem S4096x192 .bf16) (harg8 : arg8.IsWhole)
  (arg9 : Memref sig .tc .vmem S4096x192 .bf16) (harg9 : arg9.IsWhole)
  (arg10 : Memref sig .tc .vmem S4096x192 .bf16) (harg10 : arg10.IsWhole)
  (arg11 : Memref sig .tc .vmem S4096x192 .bf16) (harg11 : arg11.IsWhole)
  (arg12 : Memref sig .tc .vmem S4096x64 .bf16) (harg12 : arg12.IsWhole)

/-- The twelve-argument body at point `i`. -/
abbrev body : Prog (TpuEff nD τ sig (Elt F) Λ₀ .tc) PUnit :=
  cc1__mega_body (F := F) i arg1 harg1 arg2 harg2 arg3 harg3 arg4 harg4 arg5 harg5 arg6 harg6 arg7 harg7 arg8 harg8 arg9 harg9 arg10 harg10 arg11 harg11 arg12 harg12

set_option maxHeartbeats 2000000 in
/-- The first point: the table `r0` is filled from its two halves, then the first rows of `r1` are computed from it. -/
theorem run_first (h1 : first i) (h2 : k1_cond2 i = 1#1) (h3 : ¬k1_cond3 i = 1#1) (h4 : ¬k1_cond4 i = 1#1) (h5 : ¬k1_cond5 i = 1#1)
    (x0 : Vec F S512x4096 .f32) (x3 : Vec F S4096x64 .f32) (x4 : Vec F S4096x128 .bf16) (s0 : Vec F S4096x192 .bf16) (s1 : Vec F S4096x192 .bf16) (K : PUnit → sProp 𝕄) :
    iprop(owns (c : Thread nD τ) arg1 fullShare x0 ∗ owns (c : Thread nD τ) arg4 fullShare x3 ∗ owns (c : Thread nD τ) arg5 fullShare x4 ∗ owns (c : Thread nD τ) arg8 fullShare s0 ∗ owns (c : Thread nD τ) arg9 fullShare s1
        ∗ (iprop(owns (c : Thread nD τ) arg1 fullShare x0 ∗ owns (c : Thread nD τ) arg4 fullShare x3 ∗ owns (c : Thread nD τ) arg5 fullShare x4 ∗ owns (c : Thread nD τ) arg8 fullShare (put (put s0 ![0, 0] S4096x128.size (k1_pay1 x4)) ![0, 128] S4096x64.size (k1_pay2 x3)) ∗ owns (c : Thread nD τ) arg9 fullShare (put s1 (k1_off1 i) S512x192.size (k1_pay3 x0 (put (put s0 ![0, 0] S4096x128.size (k1_pay1 x4)) ![0, 128] S4096x64.size (k1_pay2 x3))))) -∗ K ⟨⟩))
      ⊢ wp frame (wpE (defs₀ (F := F)) Variants.none c none) E (body i arg1 harg1 arg2 harg2 arg3 harg3 arg4 harg4 arg5 harg5 arg6 harg6 arg7 harg7 arg8 harg8 arg9 harg9 arg10 harg10 arg11 harg11 arg12 harg12) K := by
  unfold body; simp only [cc1__mega_body_eq_skeleton]; unfold cc1__mega_body_skel
  unfold owns
  iintro ⟨⟨%f1, %hf1, H1⟩, ⟨%f4, %hf4, H4⟩, ⟨%f5, %hf5, H5⟩, ⟨%f8, %hf8, H8⟩, ⟨%f9, %hf9, H9⟩, Hk⟩
  subst hf1 hf4 hf5 hf8 hf9
  sl_exec (disch := first | sl_exact h1 | sl_exact h2 | sl_exact h3 | sl_exact h4 | sl_exact h5)
  sl_step
  iapply Hk
  isplitl [H1]
  · iexists f1; isplitr; · ipureintro; rfl
    iexact H1
  isplitl [H4]
  · iexists f4; isplitr; · ipureintro; rfl
    iexact H4
  isplitl [H5]
  · iexists f5; isplitr; · ipureintro; rfl
    iexact H5
  isplitl [H8]
  · iexists _; isplitr; swap; · iexact H8
    ipureintro
    rw [← whole_h arg5 f5, ← whole_u arg4 f4]; exact both_read arg8 f8 _ _
  iexists _; isplitr; swap; · iexact H9
  ipureintro
  simp only [View.read_writes_cons_put _ _ _ _ _ rfl, View.writes_nil]; rw [both arg8 f8 (k1_pay1 (arg5.view.read (Elt F) f5)) (k1_pay2 (arg4.view.read (Elt F) f4)), ← whole_x arg1 f1, ← whole_h arg5 f5, ← whole_u arg4 f4]; rfl

set_option maxHeartbeats 2000000 in
/-- Points 1 to 7: more rows of `r1`. -/
theorem run_a (h1 : ¬first i) (h2 : k1_cond2 i = 1#1) (h3 : ¬k1_cond3 i = 1#1) (h4 : ¬k1_cond4 i = 1#1) (h5 : ¬k1_cond5 i = 1#1)
    (x0 : Vec F S512x4096 .f32) (s0 : Vec F S4096x192 .bf16) (s1 : Vec F S4096x192 .bf16) (K : PUnit → sProp 𝕄) :
    iprop(owns (c : Thread nD τ) arg1 fullShare x0 ∗ owns (c : Thread nD τ) arg8 fullShare s0 ∗ owns (c : Thread nD τ) arg9 fullShare s1
        ∗ (iprop(owns (c : Thread nD τ) arg1 fullShare x0 ∗ owns (c : Thread nD τ) arg8 fullShare s0 ∗ owns (c : Thread nD τ) arg9 fullShare (put s1 (k1_off1 i) S512x192.size (k1_pay3 x0 s0))) -∗ K ⟨⟩))
      ⊢ wp frame (wpE (defs₀ (F := F)) Variants.none c none) E (body i arg1 harg1 arg2 harg2 arg3 harg3 arg4 harg4 arg5 harg5 arg6 harg6 arg7 harg7 arg8 harg8 arg9 harg9 arg10 harg10 arg11 harg11 arg12 harg12) K := by
  unfold body; simp only [cc1__mega_body_eq_skeleton]; unfold cc1__mega_body_skel
  unfold owns
  iintro ⟨⟨%f1, %hf1, H1⟩, ⟨%f8, %hf8, H8⟩, ⟨%f9, %hf9, H9⟩, Hk⟩
  subst hf1 hf8 hf9
  sl_exec (disch := first | sl_exact h1 | sl_exact h2 | sl_exact h3 | sl_exact h4 | sl_exact h5)
  sl_step
  iapply Hk
  isplitl [H1]
  · iexists f1; isplitr; · ipureintro; rfl
    iexact H1
  isplitl [H8]
  · iexists f8; isplitr; · ipureintro; rfl
    iexact H8
  iexists _; isplitr; swap; · iexact H9
  ipureintro
  simp only [View.read_writes_cons_put _ _ _ _ _ rfl, View.writes_nil]; rw [← whole_x arg1 f1, ← whole_r arg8 f8]; try rfl

set_option maxHeartbeats 2000000 in
/-- Points 8 to 15: rows of `r2` (two stores side by side) and of `i1s`, from the whole of `r1`. -/
theorem run_b (h1 : ¬first i) (h2 : ¬k1_cond2 i = 1#1) (h3 : k1_cond3 i = 1#1) (h4 : ¬k1_cond4 i = 1#1) (h5 : ¬k1_cond5 i = 1#1)
    (x1 : Vec F S512x4096 .f32) (s1 : Vec F S4096x192 .bf16) (s2 : Vec F S4096x192 .bf16) (s4 : Vec F S4096x64 .bf16) (K : PUnit → sProp 𝕄) :
    iprop(owns (c : Thread nD τ) arg2 fullShare x1 ∗ owns (c : Thread nD τ) arg9 fullShare s1 ∗ owns (c : Thread nD τ) arg10 fullShare s2 ∗ owns (c : Thread nD τ) arg12 fullShare s4
        ∗ (iprop(owns (c : Thread nD τ) arg2 fullShare x1 ∗ owns (c : Thread nD τ) arg9 fullShare s1 ∗ owns (c : Thread nD τ) arg10 fullShare (put (put s2 (k1_off2 i) S512x128.size (k1_pay5 x1 s1)) (k1_off4 i) S512x64.size (k1_pay8 x1 s1)) ∗ owns (c : Thread nD τ) arg12 fullShare (put s4 (k1_off3 i) S512x64.size (k1_pay7 x1 s1))) -∗ K ⟨⟩))
      ⊢ wp frame (wpE (defs₀ (F := F)) Variants.none c none) E (body i arg1 harg1 arg2 harg2 arg3 harg3 arg4 harg4 arg5 harg5 arg6 harg6 arg7 harg7 arg8 harg8 arg9 harg9 arg10 harg10 arg11 harg11 arg12 harg12) K := by
  unfold body; simp only [cc1__mega_body_eq_skeleton]; unfold cc1__mega_body_skel
  unfold owns
  iintro ⟨⟨%f2, %hf2, H2⟩, ⟨%f9, %hf9, H9⟩, ⟨%f10, %hf10, H10⟩, ⟨%f12, %hf12, H12⟩, Hk⟩
  subst hf2 hf9 hf10 hf12
  sl_exec (disch := first | sl_exact h1 | sl_exact h2 | sl_exact h3 | sl_exact h4 | sl_exact h5)
  sl_step
  iapply Hk
  isplitl [H2]
  · iexists f2; isplitr; · ipureintro; rfl
    iexact H2
  isplitl [H9]
  · iexists f9; isplitr; · ipureintro; rfl
    iexact H9
  isplitl [H10]
  · iexists _; isplitr; swap; · iexact H10
    ipureintro
    simp only [View.read_writes_cons_put _ _ _ _ _ rfl, View.writes_nil]; rw [← whole_x arg2 f2, ← whole_r arg9 f9]; try rfl
  iexists _; isplitr; swap; · iexact H12
  ipureintro
  simp only [View.read_writes_cons_put _ _ _ _ _ rfl, View.writes_nil]; rw [← whole_x arg2 f2, ← whole_r arg9 f9]; try rfl

set_option maxHeartbeats 2000000 in
/-- Points 16 to 23: rows of `r3`, from the whole of `r2`, and a block of the first result. -/
theorem run_c (h1 : ¬first i) (h2 : ¬k1_cond2 i = 1#1) (h3 : ¬k1_cond3 i = 1#1) (h4 : k1_cond4 i = 1#1) (h5 : ¬k1_cond5 i = 1#1)
    (x0 : Vec F S512x4096 .f32) (x2 : Vec F S4096x64 .f32) (o5 : Vec F S512x64 .f32) (s1 : Vec F S4096x192 .bf16) (s2 : Vec F S4096x192 .bf16) (s3 : Vec F S4096x192 .bf16) (K : PUnit → sProp 𝕄) :
    iprop(owns (c : Thread nD τ) arg1 fullShare x0 ∗ owns (c : Thread nD τ) arg3 fullShare x2 ∗ owns (c : Thread nD τ) arg6 fullShare o5 ∗ owns (c : Thread nD τ) arg9 fullShare s1 ∗ owns (c : Thread nD τ) arg10 fullShare s2 ∗ owns (c : Thread nD τ) arg11 fullShare s3
        ∗ (iprop(owns (c : Thread nD τ) arg1 fullShare x0 ∗ owns (c : Thread nD τ) arg3 fullShare x2 ∗ owns (c : Thread nD τ) arg6 fullShare (k1_pay9 (k1_pay13 x0 s2 (window s1 (k1_off6 i) S512x64.size (k1_off6_inb i h4)) (window x2 (k1_off7 i) S512x64.size (k1_off7_inb i h4))) (k1_pay14 x0 s2)) ∗ owns (c : Thread nD τ) arg9 fullShare s1 ∗ owns (c : Thread nD τ) arg10 fullShare s2 ∗ owns (c : Thread nD τ) arg11 fullShare (put s3 (k1_off5 i) S512x192.size (k1_pay12 x0 s2))) -∗ K ⟨⟩))
      ⊢ wp frame (wpE (defs₀ (F := F)) Variants.none c none) E (body i arg1 harg1 arg2 harg2 arg3 harg3 arg4 harg4 arg5 harg5 arg6 harg6 arg7 harg7 arg8 harg8 arg9 harg9 arg10 harg10 arg11 harg11 arg12 harg12) K := by
  unfold body; simp only [cc1__mega_body_eq_skeleton]; unfold cc1__mega_body_skel
  simp only [k1_part1_eq_skeleton]
  unfold owns
  iintro ⟨⟨%f1, %hf1, H1⟩, ⟨%f3, %hf3, H3⟩, ⟨%f6, %hf6, H6⟩, ⟨%f9, %hf9, H9⟩, ⟨%f10, %hf10, H10⟩, ⟨%f11, %hf11, H11⟩, Hk⟩
  subst hf1 hf3 hf6 hf9 hf10 hf11
  sl_exec (disch := first | sl_exact h1 | sl_exact h2 | sl_exact h3 | sl_exact h4 | sl_exact h5)
  sl_step
  iapply Hk
  isplitl [H1]
  · iexists f1; isplitr; · ipureintro; rfl
    iexact H1
  isplitl [H3]
  · iexists f3; isplitr; · ipureintro; rfl
    iexact H3
  isplitl [H6]
  · iexists _; isplitr; swap; · iexact H6
    ipureintro
    rw [← whole_x arg1 f1, ← whole_r arg10 f10]; exact whole_o arg6 f6 _
  isplitl [H9]
  · iexists f9; isplitr; · ipureintro; rfl
    iexact H9
  isplitl [H10]
  · iexists f10; isplitr; · ipureintro; rfl
    iexact H10
  iexists _; isplitr; swap; · iexact H11
  ipureintro
  simp only [View.read_writes_cons_put _ _ _ _ _ rfl, View.writes_nil]; rw [← whole_x arg1 f1, ← whole_r arg10 f10]; try rfl

set_option maxHeartbeats 2000000 in
/-- Points 24 to 31: a block of the second result, from the whole of `r3`. -/
theorem run_d (h1 : ¬first i) (h2 : ¬k1_cond2 i = 1#1) (h3 : ¬k1_cond3 i = 1#1) (h4 : ¬k1_cond4 i = 1#1) (h5 : k1_cond5 i = 1#1)
    (x1 : Vec F S512x4096 .f32) (x3 : Vec F S4096x64 .f32) (o6 : Vec F S512x64 .f32) (s3 : Vec F S4096x192 .bf16) (s4 : Vec F S4096x64 .bf16) (K : PUnit → sProp 𝕄) :
    iprop(owns (c : Thread nD τ) arg2 fullShare x1 ∗ owns (c : Thread nD τ) arg4 fullShare x3 ∗ owns (c : Thread nD τ) arg7 fullShare o6 ∗ owns (c : Thread nD τ) arg11 fullShare s3 ∗ owns (c : Thread nD τ) arg12 fullShare s4
        ∗ (iprop(owns (c : Thread nD τ) arg2 fullShare x1 ∗ owns (c : Thread nD τ) arg4 fullShare x3 ∗ owns (c : Thread nD τ) arg7 fullShare (k1_pay10 x1 s3 (window x3 (k1_off8 i) S512x64.size (k1_off8_inb i h5)) (window s4 (k1_off8 i) S512x64.size (k1_off8_inb i h5))) ∗ owns (c : Thread nD τ) arg11 fullShare s3 ∗ owns (c : Thread nD τ) arg12 fullShare s4) -∗ K ⟨⟩))
      ⊢ wp frame (wpE (defs₀ (F := F)) Variants.none c none) E (body i arg1 harg1 arg2 harg2 arg3 harg3 arg4 harg4 arg5 harg5 arg6 harg6 arg7 harg7 arg8 harg8 arg9 harg9 arg10 harg10 arg11 harg11 arg12 harg12) K := by
  unfold body; simp only [cc1__mega_body_eq_skeleton]; unfold cc1__mega_body_skel
  unfold owns
  iintro ⟨⟨%f2, %hf2, H2⟩, ⟨%f4, %hf4, H4⟩, ⟨%f7, %hf7, H7⟩, ⟨%f11, %hf11, H11⟩, ⟨%f12, %hf12, H12⟩, Hk⟩
  subst hf2 hf4 hf7 hf11 hf12
  sl_exec (disch := first | sl_exact h1 | sl_exact h2 | sl_exact h3 | sl_exact h4 | sl_exact h5)
  sl_step
  iapply Hk
  isplitl [H2]
  · iexists f2; isplitr; · ipureintro; rfl
    iexact H2
  isplitl [H4]
  · iexists f4; isplitr; · ipureintro; rfl
    iexact H4
  isplitl [H7]
  · iexists _; isplitr; swap; · iexact H7
    ipureintro
    rw [← whole_x arg2 f2, ← whole_r arg11 f11]; exact whole_o arg7 f7 _
  isplitl [H11]
  · iexists f11; isplitr; · ipureintro; rfl
    iexact H11
  iexists f12; isplitr; · ipureintro; rfl
  iexact H12

end Runs

end Cert.KernelIdeal.Run

end
-- ==== Proof.Tables.lean ====
/- The second call's five tables: what each holds once it is filled, as a function of the call's inputs alone, and the
   invariant that says how far the filling has come before each grid point. Nothing here speaks of the machine. -/
module

public import proofs.«01_k».proof.Proof.Phases
public import Idealize.ShloMosaic.Lib.ValueIdxCore

@[expose] public section

set_option maxRecDepth 16384

noncomputable section

namespace Cert.KernelIdeal.Run

open Cert.KernelIdeal.Gen
open Idealize.ShloMosaic
open Idealize.ShloMosaic.VecWindow (window put)
open Idealize.ShloMosaic.ValueIdx (ix2)

/-! ## Which stretches a point takes, and where its rows lie -/

theorem coords_val (t : Fin grid1.N) : ((grid1.coords t) 0).val = t.val := by
  revert t; decide +kernel
theorem first_iff : ∀ t : Fin grid1.N, first (grid1.coords t) ↔ t.val = 0 := by decide +kernel
theorem cond2_iff : ∀ t : Fin grid1.N, k1_cond2 (grid1.coords t) = 1#1 ↔ t.val < 8 := by decide +kernel
theorem cond3_iff : ∀ t : Fin grid1.N, k1_cond3 (grid1.coords t) = 1#1 ↔ (8 ≤ t.val ∧ t.val < 16) := by decide +kernel
theorem cond4_iff : ∀ t : Fin grid1.N, k1_cond4 (grid1.coords t) = 1#1 ↔ (16 ≤ t.val ∧ t.val < 24) := by decide +kernel
theorem cond5_iff : ∀ t : Fin grid1.N, k1_cond5 (grid1.coords t) = 1#1 ↔ 24 ≤ t.val := by decide +kernel
theorem off1_eq : ∀ t : Fin grid1.N, t.val < 8 → k1_off1 (grid1.coords t) = ![512 * t.val, 0] := by decide +kernel
theorem off2_eq : ∀ t : Fin grid1.N, 8 ≤ t.val → k1_off2 (grid1.coords t) = ![512 * (t.val - 8), 0] := by decide +kernel
theorem off3_eq : ∀ t : Fin grid1.N, 8 ≤ t.val → k1_off3 (grid1.coords t) = ![512 * (t.val - 8), 0] := by decide +kernel
theorem off4_eq : ∀ t : Fin grid1.N, 8 ≤ t.val → k1_off4 (grid1.coords t) = ![512 * (t.val - 8), 128] := by decide +kernel
theorem off5_eq : ∀ t : Fin grid1.N, 16 ≤ t.val → k1_off5 (grid1.coords t) = ![512 * (t.val - 16), 0] := by decide +kernel
theorem off6_eq : ∀ t : Fin grid1.N, 16 ≤ t.val → k1_off6 (grid1.coords t) = ![512 * (t.val - 16), 128] := by decide +kernel
theorem off7_eq : ∀ t : Fin grid1.N, 16 ≤ t.val → k1_off7 (grid1.coords t) = ![512 * (t.val - 16), 0] := by decide +kernel
theorem off8_eq : ∀ t : Fin grid1.N, 24 ≤ t.val → k1_off8 (grid1.coords t) = ![512 * (t.val - 24), 0] := by decide +kernel

/-- Grid point number `n`. -/
def pt (n : ℕ) : Fin grid1.N := ⟨n % 32, lt_of_lt_of_eq (Nat.mod_lt _ (by decide)) N_1.symm⟩

theorem pt_self (t : Fin grid1.N) : pt t.val = t := by
  have h : t.val < 32 := lt_of_lt_of_eq t.isLt N_1
  exact Fin.ext (Nat.mod_eq_of_lt h)

/-! ## Storing a block of rows -/

/-- A table after a rectangle is stored into it, entry by entry. -/
theorem put_at {α : Type} {n m r k : ℕ} (s : (⟨2, ![n, m]⟩ : Shape).Idx → α) (o0 o1 : ℕ) (w : (⟨2, ![r, k]⟩ : Shape).Idx → α)
    (y : (⟨2, ![n, m]⟩ : Shape).Idx) :
    put (s := (⟨2, ![n, m]⟩ : Shape)) s ![o0, o1] ![r, k] w y
      = if h : (o0 ≤ (y 0).val ∧ (y 0).val < o0 + r) ∧ (o1 ≤ (y 1).val ∧ (y 1).val < o1 + k) then
          w (ix2 ⟨(y 0).val - o0, by omega⟩ ⟨(y 1).val - o1, by omega⟩)
        else s y := by
  unfold put
  by_cases h : (o0 ≤ (y 0).val ∧ (y 0).val < o0 + r) ∧ (o1 ≤ (y 1).val ∧ (y 1).val < o1 + k)
  · have h' : ∀ a : Fin 2, (![o0, o1] : Fin 2 → ℕ) a ≤ (y a).val ∧ (y a).val < (![o0, o1] : Fin 2 → ℕ) a + (![r, k] : Fin 2 → ℕ) a := by
      intro a; fin_cases a
      · exact h.1
      · exact h.2
    rw [dif_pos h, dif_pos h']
    refine congrArg w ?_
    funext a
    match a with
    | ⟨0, _⟩ => exact Fin.ext (Rect.unitLocal_val _ _ _)
    | ⟨1, _⟩ => exact Fin.ext (Rect.unitLocal_val _ _ _)
  · have h' : ¬ ∀ a : Fin 2, (![o0, o1] : Fin 2 → ℕ) a ≤ (y a).val ∧ (y a).val < (![o0, o1] : Fin 2 → ℕ) a + (![r, k] : Fin 2 → ℕ) a :=
      fun hh => h ⟨hh 0, hh 1⟩
    rw [dif_neg h, dif_neg h']

/-- A window at equal offsets. -/
theorem window_congr {α : Type} {s : Shape} (x : s.Idx → α) {off off' size : Fin s.rank → ℕ} (h : off = off')
    (i : ∀ a, off a + size a ≤ s.size a) (i' : ∀ a, off' a + size a ≤ s.size a) :
    (window x off size i : ((a : Fin s.rank) → Fin (size a)) → α) = window x off' size i' := by
  subst h; rfl

/-- A row number within its block of 512 rows. -/
def row {m : ℕ} (y : (⟨2, ![4096, m]⟩ : Shape).Idx) : Fin 512 := ⟨(y 0).val % 512, Nat.mod_lt _ (by decide)⟩

/-- If a table agrees with `R` on the first `n` blocks of 512 rows and block `n` is stored with `R`'s rows, the table
    agrees with `R` on the first `n + 1` blocks. -/
theorem rows_step {α : Type} {m : ℕ} (s R : (⟨2, ![4096, m]⟩ : Shape).Idx → α) (n : ℕ) (w : (⟨2, ![512, m]⟩ : Shape).Idx → α)
    (hs : ∀ y, (y 0).val < 512 * n → s y = R y) (hw : ∀ y : (⟨2, ![4096, m]⟩ : Shape).Idx, (y 0).val / 512 = n → w (ix2 (row y) (y 1)) = R y) :
    ∀ y, (y 0).val < 512 * (n + 1) → put (s := (⟨2, ![4096, m]⟩ : Shape)) s ![512 * n, 0] ![512, m] w y = R y := by
  intro y hy
  have h1 : (y 1).val < m := (y 1).isLt
  rw [put_at]
  by_cases h : 512 * n ≤ (y 0).val
  · rw [dif_pos ⟨⟨h, by omega⟩, Nat.zero_le _, by omega⟩]
    have hb : (y 0).val / 512 = n := by omega
    rw [← hw y hb]
    refine congrArg w ?_
    congr 1
    exact Fin.ext (show (y 0).val - 512 * n = (y 0).val % 512 by omega)
  · rw [dif_neg (fun hh => h hh.1.1)]
    exact hs y (by omega)

/-! ## The tables -/

section Tables
variable {F : FTy → Type} [FloatOps F]
variable (b0 b1 : Fin grid1.N → Vec F S512x4096 .f32) (b2 b3 : Fin grid1.N → Vec F S4096x64 .f32) (b4 : Fin grid1.N → Vec F S4096x128 .bf16)

/-- `r0`: the image/text features beside the item ids. -/
def R0 : Vec F S4096x192 .bf16 := fun y =>
  if h : (y 1).val < 128 then k1_pay1 (b4 (pt 0)) (ix2 (y 0) ⟨(y 1).val, h⟩)
  else k1_pay2 (b3 (pt 0)) (ix2 (y 0) ⟨(y 1).val - 128, by have h1 : (y 1).val < 192 := (y 1).isLt; omega⟩)

/-- `r1`: the user-to-item graph times `r0`. -/
def R1 : Vec F S4096x192 .bf16 := fun y => k1_pay3 (b0 (pt ((y 0).val / 512))) (R0 b3 b4) (ix2 (row y) (y 1))

/-- `r2`: the item-to-user graph times `r1`, its last 64 columns through the softmax. -/
def R2 : Vec F S4096x192 .bf16 := fun y =>
  if h : (y 1).val < 128 then k1_pay5 (b1 (pt (8 + (y 0).val / 512))) (R1 b0 b3 b4) (ix2 (row y) ⟨(y 1).val, h⟩)
  else k1_pay8 (b1 (pt (8 + (y 0).val / 512))) (R1 b0 b3 b4) (ix2 (row y) ⟨(y 1).val - 128, by have h1 : (y 1).val < 192 := (y 1).isLt; omega⟩)

/-- `i1s`: the last 64 columns of the item-to-user graph times `r1`. -/
def I1 : Vec F S4096x64 .bf16 := fun y => k1_pay7 (b1 (pt (8 + (y 0).val / 512))) (R1 b0 b3 b4) (ix2 (row y) (y 1))

/-- `r3`: the user-to-item graph times `r2`. -/
def R3 : Vec F S4096x192 .bf16 := fun y => k1_pay12 (b0 (pt (16 + (y 0).val / 512))) (R2 b0 b1 b3 b4) (ix2 (row y) (y 1))

theorem inb_r {n : ℕ} (h : n < 8) {m o : ℕ} (ho : o + 64 ≤ m) : ∀ a : Fin 2, (![512 * n, o] : Fin 2 → ℕ) a + S512x64.size a ≤ (![4096, m] : Fin 2 → ℕ) a := by
  intro a; fin_cases a
  · show 512 * n + 512 ≤ 4096; omega
  · exact ho

/-- The first result's rows of block `n`. -/
def out5 (n : ℕ) (h : n < 8) : Vec F S512x64 .f32 :=
  k1_pay9 (k1_pay13 (b0 (pt (16 + n))) (R2 b0 b1 b3 b4) (window (R1 b0 b3 b4) ![512 * n, 128] S512x64.size (inb_r h (by decide)))
      (window (b2 (pt (16 + n))) ![512 * n, 0] S512x64.size (inb_r h (by decide))))
    (k1_pay14 (b0 (pt (16 + n))) (R2 b0 b1 b3 b4))

/-- The second result's rows of block `n`. -/
def out6 (n : ℕ) (h : n < 8) : Vec F S512x64 .f32 :=
  k1_pay10 (b1 (pt (24 + n))) (R3 b0 b1 b3 b4) (window (b3 (pt (24 + n))) ![512 * n, 0] S512x64.size (inb_r h (by decide)))
    (window (I1 b0 b1 b3 b4) ![512 * n, 0] S512x64.size (inb_r h (by decide)))

/-- How far the tables are filled after `n` points: `r0` from the first point on; block `k` of `r1` after point `k`, of
    `r2` and `i1s` after point `8 + k`, of `r3` after point `16 + k`. -/
structure Inv (n : ℕ) (s0 s1 s2 s3 : Vec F S4096x192 .bf16) (s4 : Vec F S4096x64 .bf16) : Prop where
  r0 : 0 < n → s0 = R0 b3 b4
  r1 : ∀ y, (y 0).val < 512 * n → s1 y = R1 b0 b3 b4 y
  r2 : ∀ y, (y 0).val < 512 * (n - 8) → s2 y = R2 b0 b1 b3 b4 y
  i1 : ∀ y, (y 0).val < 512 * (n - 8) → s4 y = I1 b0 b1 b3 b4 y
  r3 : ∀ y, (y 0).val < 512 * (n - 16) → s3 y = R3 b0 b1 b3 b4 y

variable {b0 b1 b3 b4} {s0 s1 s2 s3 : Vec F S4096x192 .bf16} {s4 : Vec F S4096x64 .bf16}

/-- Before the first point nothing is asked. -/
theorem Inv.start : Inv b0 b1 b3 b4 0 s0 s1 s2 s3 s4 where
  r0 h := absurd h (lt_irrefl 0)
  r1 y h := absurd h (Nat.not_lt_zero _)
  r2 y h := absurd h (Nat.not_lt_zero _)
  i1 y h := absurd h (Nat.not_lt_zero _)
  r3 y h := absurd h (Nat.not_lt_zero _)

/-- After eight points `r1` is full, -/
theorem Inv.full1 {n : ℕ} (h : Inv b0 b1 b3 b4 n s0 s1 s2 s3 s4) (hn : 8 ≤ n) : s1 = R1 b0 b3 b4 := by
  funext y; have h0 : (y 0).val < 4096 := (y 0).isLt; exact h.r1 y (by omega)
/-- after sixteen `r2` -/
theorem Inv.full2 {n : ℕ} (h : Inv b0 b1 b3 b4 n s0 s1 s2 s3 s4) (hn : 16 ≤ n) : s2 = R2 b0 b1 b3 b4 := by
  funext y; have h0 : (y 0).val < 4096 := (y 0).isLt; exact h.r2 y (by omega)
/-- and `i1s`, -/
theorem Inv.full4 {n : ℕ} (h : Inv b0 b1 b3 b4 n s0 s1 s2 s3 s4) (hn : 16 ≤ n) : s4 = I1 b0 b1 b3 b4 := by
  funext y; have h0 : (y 0).val < 4096 := (y 0).isLt; exact h.i1 y (by omega)
/-- after twenty-four `r3`. -/
theorem Inv.full3 {n : ℕ} (h : Inv b0 b1 b3 b4 n s0 s1 s2 s3 s4) (hn : 24 ≤ n) : s3 = R3 b0 b1 b3 b4 := by
  funext y; have h0 : (y 0).val < 4096 := (y 0).isLt; exact h.r3 y (by omega)

/-- The two stores that fill `r0`. -/
theorem filled0 (s0 : Vec F S4096x192 .bf16) :
    put (put s0 ![0, 0] S4096x128.size (k1_pay1 (b4 (pt 0)))) ![0, 128] S4096x64.size (k1_pay2 (b3 (pt 0))) = R0 b3 b4 := by
  funext y
  have h0 : (y 0).val < 4096 := (y 0).isLt
  have h1 : (y 1).val < 192 := (y 1).isLt
  refine (put_at (n := 4096) (m := 192) (r := 4096) (k := 64) _ 0 128 _ y).trans ?_
  unfold R0
  by_cases h : (y 1).val < 128
  · rw [dif_neg (fun hh => by have := hh.2.1; omega), dif_pos h]
    refine (put_at (n := 4096) (m := 192) (r := 4096) (k := 128) _ 0 0 _ y).trans ?_
    rw [dif_pos ⟨⟨Nat.zero_le _, by omega⟩, Nat.zero_le _, by omega⟩]
    rfl
  · rw [dif_pos ⟨⟨Nat.zero_le _, by omega⟩, by omega, by omega⟩, dif_neg h]
    rfl

variable {t : Fin grid1.N}

theorem Inv.step_first (ht : t.val = 0) (_h : Inv b0 b1 b3 b4 t.val s0 s1 s2 s3 s4) :
    Inv b0 b1 b3 b4 (t.val + 1) (put (put s0 ![0, 0] S4096x128.size (k1_pay1 (b4 t))) ![0, 128] S4096x64.size (k1_pay2 (b3 t)))
      (put s1 (k1_off1 (grid1.coords t)) S512x192.size
        (k1_pay3 (b0 t) (put (put s0 ![0, 0] S4096x128.size (k1_pay1 (b4 t))) ![0, 128] S4096x64.size (k1_pay2 (b3 t))))) s2 s3 s4 := by
  obtain rfl : pt 0 = t := by rw [← ht, pt_self]
  rw [filled0, off1_eq (pt 0) (by rw [ht]; decide)]
  exact
    { r0 := fun _ => rfl
      r1 := rows_step s1 _ (pt 0).val _ (fun y hy => by rw [ht] at hy; exact absurd hy (Nat.not_lt_zero _)) fun y hy => by
        unfold R1; rw [hy, pt_self]
      r2 := fun y hy => by rw [ht] at hy; exact absurd hy (Nat.not_lt_zero _)
      i1 := fun y hy => by rw [ht] at hy; exact absurd hy (Nat.not_lt_zero _)
      r3 := fun y hy => by rw [ht] at hy; exact absurd hy (Nat.not_lt_zero _) }

theorem Inv.step_a (h0 : t.val ≠ 0) (ht : t.val < 8) (h : Inv b0 b1 b3 b4 t.val s0 s1 s2 s3 s4) :
    Inv b0 b1 b3 b4 (t.val + 1) s0 (put s1 (k1_off1 (grid1.coords t)) S512x192.size (k1_pay3 (b0 t) s0)) s2 s3 s4 := by
  rw [off1_eq t ht, h.r0 (by omega)]
  exact
    { r0 := fun _ => rfl
      r1 := rows_step s1 _ t.val _ h.r1 fun y hy => by unfold R1; rw [hy, pt_self]
      r2 := fun y hy => by rw [show t.val + 1 - 8 = 0 by omega] at hy; exact absurd hy (Nat.not_lt_zero _)
      i1 := fun y hy => by rw [show t.val + 1 - 8 = 0 by omega] at hy; exact absurd hy (Nat.not_lt_zero _)
      r3 := fun y hy => by rw [show t.val + 1 - 16 = 0 by omega] at hy; exact absurd hy (Nat.not_lt_zero _) }

theorem Inv.step_b (h0 : 8 ≤ t.val) (ht : t.val < 16) (h : Inv b0 b1 b3 b4 t.val s0 s1 s2 s3 s4) :
    Inv b0 b1 b3 b4 (t.val + 1) s0 s1
      (put (put s2 (k1_off2 (grid1.coords t)) S512x128.size (k1_pay5 (b1 t) s1)) (k1_off4 (grid1.coords t)) S512x64.size (k1_pay8 (b1 t) s1)) s3
      (put s4 (k1_off3 (grid1.coords t)) S512x64.size (k1_pay7 (b1 t) s1)) := by
  rw [off2_eq t h0, off3_eq t h0, off4_eq t h0, h.full1 h0]
  have hd : t.val + 1 - 8 = (t.val - 8) + 1 := by omega
  have hp : pt (8 + (t.val - 8)) = t := by rw [show 8 + (t.val - 8) = t.val by omega, pt_self]
  exact
    { r0 := fun _ => h.r0 (by omega)
      r1 := fun _ _ => rfl
      r2 := fun y hy => by
        rw [hd] at hy
        have h0 : (y 0).val < 4096 := (y 0).isLt
        have h1 : (y 1).val < 192 := (y 1).isLt
        refine (put_at (n := 4096) (m := 192) (r := 512) (k := 64) _ (512 * (t.val - 8)) 128 _ y).trans ?_
        by_cases hb : 512 * (t.val - 8) ≤ (y 0).val
        · have hq : (y 0).val / 512 = t.val - 8 := by omega
          have hr : (y 0).val - 512 * (t.val - 8) = (y 0).val % 512 := by omega
          unfold R2
          by_cases hc : (y 1).val < 128
          · rw [dif_neg (fun hh => by have := hh.2.1; omega), dif_pos hc, hq, hp]
            refine (put_at (n := 4096) (m := 192) (r := 512) (k := 128) _ (512 * (t.val - 8)) 0 _ y).trans ?_
            rw [dif_pos ⟨⟨hb, by omega⟩, Nat.zero_le _, by omega⟩]
            refine congrArg (k1_pay5 (b1 t) (R1 b0 b3 b4)) ?_
            congr 1
            exact Fin.ext hr
          · rw [dif_pos ⟨⟨hb, by omega⟩, by omega, by omega⟩, dif_neg hc, hq, hp]
            refine congrArg (k1_pay8 (b1 t) (R1 b0 b3 b4)) ?_
            congr 1
            exact Fin.ext hr
        · rw [dif_neg (fun hh => hb hh.1.1)]
          refine (put_at (n := 4096) (m := 192) (r := 512) (k := 128) _ (512 * (t.val - 8)) 0 _ y).trans ?_
          rw [dif_neg (fun hh => hb hh.1.1)]
          exact h.r2 y (by omega)
      i1 := by
        rw [hd]
        exact rows_step s4 _ (t.val - 8) _ h.i1 fun y hy => by unfold I1; rw [hy, hp]
      r3 := fun y hy => by rw [show t.val + 1 - 16 = 0 by omega] at hy; exact absurd hy (Nat.not_lt_zero _) }

theorem Inv.step_c (h0 : 16 ≤ t.val) (ht : t.val < 24) (h : Inv b0 b1 b3 b4 t.val s0 s1 s2 s3 s4) :
    Inv b0 b1 b3 b4 (t.val + 1) s0 s1 s2 (put s3 (k1_off5 (grid1.coords t)) S512x192.size (k1_pay12 (b0 t) s2)) s4 := by
  rw [off5_eq t h0, h.full2 h0, h.full1 (by omega), h.full4 h0]
  have hd : t.val + 1 - 16 = (t.val - 16) + 1 := by omega
  have hp : pt (16 + (t.val - 16)) = t := by rw [show 16 + (t.val - 16) = t.val by omega, pt_self]
  exact
    { r0 := fun _ => h.r0 (by omega)
      r1 := fun _ _ => rfl
      r2 := fun _ _ => rfl
      i1 := fun _ _ => rfl
      r3 := by
        rw [hd]
        exact rows_step s3 _ (t.val - 16) _ h.r3 fun y hy => by unfold R3; rw [hy, hp] }

theorem Inv.step_d (h0 : 24 ≤ t.val) (h : Inv b0 b1 b3 b4 t.val s0 s1 s2 s3 s4) : Inv b0 b1 b3 b4 (t.val + 1) s0 s1 s2 s3 s4 := by
  rw [h.full3 h0, h.full2 (by omega), h.full1 (by omega), h.full4 (by omega)]
  exact
    { r0 := fun _ => h.r0 (by omega)
      r1 := fun _ _ => rfl
      r2 := fun _ _ => rfl
      i1 := fun _ _ => rfl
      r3 := fun _ _ => rfl }

/-- What a point of the third phase stores in the first result's block. -/
theorem Inv.out_c (h0 : 16 ≤ t.val) (ht : t.val < 24) (h : Inv b0 b1 b3 b4 t.val s0 s1 s2 s3 s4) (h6) (h7) :
    k1_pay9 (k1_pay13 (b0 t) s2 (window s1 (k1_off6 (grid1.coords t)) S512x64.size h6) (window (b2 t) (k1_off7 (grid1.coords t)) S512x64.size h7)) (k1_pay14 (b0 t) s2)
      = out5 b0 b1 b2 b3 b4 (t.val - 16) (by omega) := by
  have hp : pt (16 + (t.val - 16)) = t := by rw [show 16 + (t.val - 16) = t.val by omega, pt_self]
  unfold out5
  rw [hp, h.full2 h0, h.full1 (by omega)]
  exact congrArg₂ k1_pay9 (congrArg₂ (k1_pay13 _ _) (window_congr _ (off6_eq t h0) _ _) (window_congr _ (off7_eq t h0) _ _)) rfl

/-- What a point of the fourth phase stores in the second result's block. -/
theorem Inv.out_d (h0 : 24 ≤ t.val) (h : Inv b0 b1 b3 b4 t.val s0 s1 s2 s3 s4) (h8) (h8') :
    k1_pay10 (b1 t) s3 (window (b3 t) (k1_off8 (grid1.coords t)) S512x64.size h8) (window s4 (k1_off8 (grid1.coords t)) S512x64.size h8')
      = out6 b0 b1 b3 b4 (t.val - 24) (by have ht : t.val < 32 := lt_of_lt_of_eq t.isLt N_1; omega) := by
  have hp : pt (24 + (t.val - 24)) = t := by rw [show 24 + (t.val - 24) = t.val by omega, pt_self]
  unfold out6
  rw [hp, h.full3 h0, h.full4 (by omega)]
  exact congrArg₂ (k1_pay10 _ _) (window_congr _ (off8_eq t h0) _ _) (window_congr _ (off8_eq t h0) _ _)

end Tables

end Cert.KernelIdeal.Run

end
-- ==== Proof.Steps.lean ====
/- The second call, point by point: its windows' contents, the invariant its scratch tables satisfy between points, and
   the obligation that the body at every point takes the one to the next. -/
module

public import proofs.«01_k».proof.Proof.Tables
public import Idealize.ShloMosaic.Lib.Pipeline.FrameBody
public import Idealize.ShloMosaic.Lib.Pipeline.Regions
public import Idealize.ShloMosaic.Lib.Ring
public import Idealize.ShloMosaic.Lib.Tactic

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.VecWindow (window put)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the call finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The five inputs' blocks, at their shapes. -/
abbrev blk0 (c : Dev nD) : Fin grid1.N → Vec F S512x4096 .f32 := fun t => iblk1 V c 0 t
abbrev blk1 (c : Dev nD) : Fin grid1.N → Vec F S512x4096 .f32 := fun t => iblk1 V c 1 t
abbrev blk2 (c : Dev nD) : Fin grid1.N → Vec F S4096x64 .f32 := fun t => iblk1 V c 2 t
abbrev blk3 (c : Dev nD) : Fin grid1.N → Vec F S4096x64 .f32 := fun t => iblk1 V c 3 t
abbrev blk4 (c : Dev nD) : Fin grid1.N → Vec F S4096x128 .bf16 := fun t => iblk1 V c 4 t

/-- The block of the first result that point `n`'s buffer ends with (the last of the third phase's, once that is over). -/
def res5 (c : Dev nD) (n : ℕ) : Vec F S512x64 .f32 :=
  out5 (blk0 V c) (blk1 V c) (blk2 V c) (blk3 V c) (blk4 V c) (min (n - 16) 7) (by omega)

/-- The block of the second result that point `n`'s buffer ends with. -/
def res6 (c : Dev nD) (n : ℕ) : Vec F S512x64 .f32 :=
  out6 (blk0 V c) (blk1 V c) (blk3 V c) (blk4 V c) (min (n - 24) 7) (by omega)

/-! ## The invariant between points -/

abbrev sc0 : Memref sig .tc .vmem S4096x192 .bf16 := Memref.whole cc1_scratch0
abbrev sc1 : Memref sig .tc .vmem S4096x192 .bf16 := Memref.whole cc1_scratch1
abbrev sc2 : Memref sig .tc .vmem S4096x192 .bf16 := Memref.whole cc1_scratch2
abbrev sc3 : Memref sig .tc .vmem S4096x192 .bf16 := Memref.whole cc1_scratch3
abbrev sc4 : Memref sig .tc .vmem S4096x64 .bf16 := Memref.whole cc1_scratch4

/-- After `n` points: the five tables are owned, filled as far as `Inv` says; the rest of the call's scoped memory is whatever it is. -/
def tables (c : Dev nD) (n : ℕ) : sProp 𝕄 :=
  iprop((∃ (s0 s1 s2 s3 : Vec F S4096x192 .bf16) (s4 : Vec F S4096x64 .bf16),
      ⌜Inv (blk0 V c) (blk1 V c) (blk3 V c) (blk4 V c) n s0 s1 s2 s3 s4⌝
      ∗ owns (c : Thread nD τ) sc0 fullShare s0 ∗ owns (c : Thread nD τ) sc1 fullShare s1 ∗ owns (c : Thread nD τ) sc2 fullShare s2
      ∗ owns (c : Thread nD τ) sc3 fullShare s3 ∗ owns (c : Thread nD τ) sc4 fullShare s4)
    ∗ Pipeline.scopedRestBut (Ix := Unit) (Name := ℕ) (U := UR sig nD τ) (Lvl := ℕ) (Val := Elt F) spec1 c [cc1_scratch0, cc1_scratch1, cc1_scratch2, cc1_scratch3, cc1_scratch4]
    ∗ ∃ r, prngReg c r)

/-- The proof data of the call: `V`'s arrays, the input windows left as fetched, the two result windows at `res5` and
    `res6`, and the invariant `tables`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => res5 V c t.val
    | ⟨6, _⟩ => res6 V c t.val
    | ⟨_ + 7, h⟩ => absurd h (Nat.not_lt.2 (Nat.le_add_left _ _))
  Φ t := tables V c t.val
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = res5 V c t.val := by dsimp only [dat1]
theorem after1_6 (c : Dev nD) (t : Fin cfg1.N) : (dat1 V c).after 6 t = res6 V c t.val := by dsimp only [dat1]

/-- Input window 0's buffer holds its block at every point. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
/-- Input window 1's buffer holds its block at every point. -/
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
/-- Input window 2's buffer holds its block at every point. -/
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
/-- Input window 3's buffer holds its block at every point. -/
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
/-- Input window 4's buffer holds its block at every point. -/
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)

/-! ## The two result windows -/

theorem flush5_iff : ∀ t : Fin cfg1.N, (cfg1.win 5).flush t = true ↔ (16 ≤ t.val ∧ t.val < 23) ∨ t.val = 31 := by decide +kernel
theorem flush6_iff : ∀ t : Fin cfg1.N, (cfg1.win 6).flush t = true ↔ 24 ≤ t.val := by decide +kernel
theorem fetch5 : ∀ t : Fin cfg1.N, (cfg1.win 5).fetch t = false := by decide +kernel

theorem idle5_iff (t : Fin cfg1.N) : cfg1.idle 5 (cfg1.grid.coords t) = true ↔ ¬ (16 ≤ t.val ∧ t.val < 24) := by
  rw [← cond4_iff t]
  show (!(k1_cond4 (grid1.coords t) == 1#1)) = true ↔ _
  simp
theorem idle6_iff (t : Fin cfg1.N) : cfg1.idle 6 (cfg1.grid.coords t) = true ↔ ¬ 24 ≤ t.val := by
  rw [← cond5_iff t]
  show (!(k1_cond5 (grid1.coords t) == 1#1)) = true ↔ _
  simp

/-- In the fourth phase the first result's buffer still holds the third phase's last block. -/
theorem before1_5_late (c : Dev nD) (k : ℕ) : ∀ (hk : 24 + k < cfg1.N) (d), (dat1 V c).before 5 ⟨24 + k, hk⟩ d = res5 V c 23 := by
  induction k with
  | zero =>
    intro hk d
    rw [Dat.before_of_pos _ _ _ (by show 24 + 0 ≠ 0; omega) (fetch5 _) d]
    have hf : ¬ (cfg1.win 5).flush ⟨24 + 0 - 1, Nat.lt_of_le_of_lt (Nat.sub_le _ _) hk⟩ = true := by
      rw [flush5_iff]; show ¬ ((16 ≤ 23 ∧ 23 < 23) ∨ 23 = 31); omega
    rw [if_neg hf]
    have hi : cfg1.idle 5 (cfg1.grid.coords ⟨24 + 0 - 1, Nat.lt_of_le_of_lt (Nat.sub_le _ _) hk⟩) = false := by
      rw [← Bool.not_eq_true, idle5_iff, not_not]; show 16 ≤ 23 ∧ 23 < 24; omega
    unfold Dat.left
    rw [hi]
    dsimp only
    unfold Dat.kept
    exact ((Pipeline.fill_of_clip_none (cfg := cfg1) 5 _ (fun _ => rfl) d ((dat1 V c).after 5 _) _).trans ((cfg1.win 5).fill_cut _ _)).trans (after1_5 V c _)
  | succ k ih =>
    intro hk d
    have hN : 24 + (k + 1) < 32 := lt_of_lt_of_eq hk N_1
    rw [Dat.before_of_pos _ _ _ (by show 24 + (k + 1) ≠ 0; omega) (fetch5 _) d]
    have hf : ¬ (cfg1.win 5).flush ⟨24 + (k + 1) - 1, Nat.lt_of_le_of_lt (Nat.sub_le _ _) hk⟩ = true := by
      rw [flush5_iff]; show ¬ ((16 ≤ 24 + k ∧ 24 + k < 23) ∨ 24 + k = 31); omega
    rw [if_neg hf]
    have hi : cfg1.idle 5 (cfg1.grid.coords ⟨24 + (k + 1) - 1, Nat.lt_of_le_of_lt (Nat.sub_le _ _) hk⟩) = true := by
      rw [idle5_iff]; show ¬ (16 ≤ 24 + k ∧ 24 + k < 24); omega
    unfold Dat.left
    rw [hi]
    exact ih _ d

/-! ## The body obligation -/

/-- What the body is called with at point `t`, -/
def bodyPre1 (c : Dev nD) (t : Fin cfg1.N) : sProp 𝕄 :=
  iprop((dat1 V c).Φ t.castSucc
    ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ
    ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

theorem leaves1_0 (c : Dev nD) (t : Fin cfg1.N) : (dat1 V c).leavesExact 0 t = owns (c : Thread nD τ) (st1_0 t) fullShare (iblk1 V c 0 t) := by
  unfold Dat.leavesExact; rw [show cfg1.idle 0 (cfg1.grid.coords t) = false from rfl, after1_0]
theorem leaves1_1 (c : Dev nD) (t : Fin cfg1.N) : (dat1 V c).leavesExact 1 t = owns (c : Thread nD τ) (st1_1 t) fullShare (iblk1 V c 1 t) := by
  unfold Dat.leavesExact; rw [show cfg1.idle 1 (cfg1.grid.coords t) = false from rfl, after1_1]
theorem leaves1_2 (c : Dev nD) (t : Fin cfg1.N) : (dat1 V c).leavesExact 2 t = owns (c : Thread nD τ) (st1_2 t) fullShare (iblk1 V c 2 t) := by
  unfold Dat.leavesExact; rw [show cfg1.idle 2 (cfg1.grid.coords t) = false from rfl, after1_2]
theorem leaves1_3 (c : Dev nD) (t : Fin cfg1.N) : (dat1 V c).leavesExact 3 t = owns (c : Thread nD τ) (st1_3 t) fullShare (iblk1 V c 3 t) := by
  unfold Dat.leavesExact; rw [show cfg1.idle 3 (cfg1.grid.coords t) = false from rfl, after1_3]
theorem leaves1_4 (c : Dev nD) (t : Fin cfg1.N) : (dat1 V c).leavesExact 4 t = owns (c : Thread nD τ) (st1_4 t) fullShare (iblk1 V c 4 t) := by
  unfold Dat.leavesExact; rw [show cfg1.idle 4 (cfg1.grid.coords t) = false from rfl, after1_4]

theorem leaves1_5_idle (c : Dev nD) (t : Fin cfg1.N) (h : ¬ (16 ≤ t.val ∧ t.val < 24)) (h' : t.val ≠ 31) :
    (dat1 V c).leavesExact 5 t = iprop(∃ d, owns (c : Thread nD τ) (st1_5 t) fullShare ((dat1 V c).before 5 t d)) :=
  Dat.leavesExact_idle _ 5 t ((idle5_iff t).mpr h) (by rw [← Bool.not_eq_true, flush5_iff]; omega)
theorem leaves1_5_live (c : Dev nD) (t : Fin cfg1.N) (h : 16 ≤ t.val ∧ t.val < 24) :
    (dat1 V c).leavesExact 5 t = owns (c : Thread nD τ) (st1_5 t) fullShare (res5 V c t.val) := by
  unfold Dat.leavesExact
  rw [show cfg1.idle 5 (cfg1.grid.coords t) = false by rw [← Bool.not_eq_true, idle5_iff, not_not]; exact h, after1_5]
theorem leaves1_5_last (c : Dev nD) (t : Fin cfg1.N) (h : t.val = 31) :
    (dat1 V c).leavesExact 5 t = owns (c : Thread nD τ) (st1_5 t) fullShare (res5 V c t.val) := by
  unfold Dat.leavesExact
  rw [show cfg1.idle 5 (cfg1.grid.coords t) = true by rw [idle5_iff]; omega, show (cfg1.win 5).flush t = true by rw [flush5_iff]; omega, after1_5]
theorem leaves1_6_idle (c : Dev nD) (t : Fin cfg1.N) (h : ¬ 24 ≤ t.val) :
    (dat1 V c).leavesExact 6 t = iprop(∃ d, owns (c : Thread nD τ) (st1_6 t) fullShare ((dat1 V c).before 6 t d)) :=
  Dat.leavesExact_idle _ 6 t ((idle6_iff t).mpr h) (by rw [← Bool.not_eq_true, flush6_iff]; omega)
theorem leaves1_6_live (c : Dev nD) (t : Fin cfg1.N) (h : 24 ≤ t.val) :
    (dat1 V c).leavesExact 6 t = owns (c : Thread nD τ) (st1_6 t) fullShare (res6 V c t.val) := by
  unfold Dat.leavesExact
  rw [show cfg1.idle 6 (cfg1.grid.coords t) = false by rw [← Bool.not_eq_true, idle6_iff, not_not]; exact h, after1_6]

/-- In the fourth phase the first result's buffer holds the block its last point is to write back. -/
theorem before1_5_last (c : Dev nD) (t : Fin cfg1.N) (h : t.val = 31) (d) : (dat1 V c).before 5 t d = res5 V c t.val := by
  obtain ⟨n, hn⟩ := t
  dsimp only at h
  subst h
  exact before1_5_late V c 7 hn d

/-- The body at the first point. -/
theorem body1_first (c : Dev nD) (t : Fin cfg1.N) (h : t.val = 0) :
    bodyPre1 V c t ⊢ wp frame (wpE (defs₀ (F := F)) Variants.none c none) Set.univ (bodyAt1 t) (fun _ => bodyPost1 V c t) := by
  have hN : t.val < 32 := lt_of_lt_of_eq t.isLt N_1
  unfold bodyPre1 bodyPost1 bodyAt1
  simp only [before1_0, before1_1, before1_2, before1_3, before1_4]
  rw [show (dat1 V c).Φ t.castSucc = tables V c t.val from rfl, show (dat1 V c).Φ t.succ = tables V c (t.val + 1) from rfl,
    show (dat1 V c).owesAt () t.succ = (dat1 V c).owesAt () t.castSucc from rfl,
    leaves1_0, leaves1_1, leaves1_2, leaves1_3, leaves1_4, leaves1_5_idle V c t (by omega) (by omega), leaves1_6_idle V c t (by omega)]
  unfold tables
  iintro ⟨⟨⟨%s0, %s1, %s2, %s3, %s4, %hI, HS0, HS1, HS2, HS3, HS4⟩, Hr, Hg⟩, Ho, ⟨%d0, H0⟩, ⟨%d1, H1⟩, ⟨%d2, H2⟩, ⟨%d3, H3⟩, ⟨%d4, H4⟩, ⟨%d5, H5⟩, ⟨%d6, H6⟩⟩
  iapply (run_first c Set.univ (grid1.coords t) _ _ _ _ _ _ _ _ _ _ _ _ _ _ _ _ _ _ _ _ _ _ _ _ ((first_iff t).mpr (by omega)) ((cond2_iff t).mpr (by omega)) (fun hh => by have := (cond3_iff t).mp hh; omega) (fun hh => by have := (cond4_iff t).mp hh; omega) (fun hh => by have := (cond5_iff t).mp hh; omega) (iblk1 V c 0 t) (iblk1 V c 3 t) (iblk1 V c 4 t) s0 s1 _)
  isplitl [H0]; · iexact H0
  isplitl [H3]; · iexact H3
  isplitl [H4]; · iexact H4
  isplitl [HS0]; · iexact HS0
  isplitl [HS1]; · iexact HS1
  iintro ⟨H0, H3, H4, HS0, HS1⟩
  isplitl [HS0 HS1 HS2 HS3 HS4 Hr Hg]
  · isplitl [HS0 HS1 HS2 HS3 HS4]
    · iexists _; iexists _; iexists _; iexists _; iexists _
      isplitr; · ipureintro; exact hI.step_first h
      isplitl [HS0]; · iexact HS0
      isplitl [HS1]; · iexact HS1
      isplitl [HS2]; · iexact HS2
      isplitl [HS3]; · iexact HS3
      iexact HS4
    isplitl [Hr]; · iexact Hr
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists d5; iexact H5
  iexists d6; iexact H6

/-- The body at points 1 to 7. -/
theorem body1_a (c : Dev nD) (t : Fin cfg1.N) (h : t.val ≠ 0) (h' : t.val < 8) :
    bodyPre1 V c t ⊢ wp frame (wpE (defs₀ (F := F)) Variants.none c none) Set.univ (bodyAt1 t) (fun _ => bodyPost1 V c t) := by
  have hN : t.val < 32 := lt_of_lt_of_eq t.isLt N_1
  unfold bodyPre1 bodyPost1 bodyAt1
  simp only [before1_0, before1_1, before1_2, before1_3, before1_4]
  rw [show (dat1 V c).Φ t.castSucc = tables V c t.val from rfl, show (dat1 V c).Φ t.succ = tables V c (t.val + 1) from rfl,
    show (dat1 V c).owesAt () t.succ = (dat1 V c).owesAt () t.castSucc from rfl,
    leaves1_0, leaves1_1, leaves1_2, leaves1_3, leaves1_4, leaves1_5_idle V c t (by omega) (by omega), leaves1_6_idle V c t (by omega)]
  unfold tables
  iintro ⟨⟨⟨%s0, %s1, %s2, %s3, %s4, %hI, HS0, HS1, HS2, HS3, HS4⟩, Hr, Hg⟩, Ho, ⟨%d0, H0⟩, ⟨%d1, H1⟩, ⟨%d2, H2⟩, ⟨%d3, H3⟩, ⟨%d4, H4⟩, ⟨%d5, H5⟩, ⟨%d6, H6⟩⟩
  iapply (run_a c Set.univ (grid1.coords t) _ _ _ _ _ _ _ _ _ _ _ _ _ _ _ _ _ _ _ _ _ _ _ _ (fun hh => by have := (first_iff t).mp hh; omega) ((cond2_iff t).mpr (by omega)) (fun hh => by have := (cond3_iff t).mp hh; omega) (fun hh => by have := (cond4_iff t).mp hh; omega) (fun hh => by have := (cond5_iff t).mp hh; omega) (iblk1 V c 0 t) s0 s1 _)
  isplitl [H0]; · iexact H0
  isplitl [HS0]; · iexact HS0
  isplitl [HS1]; · iexact HS1
  iintro ⟨H0, HS0, HS1⟩
  isplitl [HS0 HS1 HS2 HS3 HS4 Hr Hg]
  · isplitl [HS0 HS1 HS2 HS3 HS4]
    · iexists _; iexists _; iexists _; iexists _; iexists _
      isplitr; · ipureintro; exact hI.step_a h h'
      isplitl [HS0]; · iexact HS0
      isplitl [HS1]; · iexact HS1
      isplitl [HS2]; · iexact HS2
      isplitl [HS3]; · iexact HS3
      iexact HS4
    isplitl [Hr]; · iexact Hr
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists d5; iexact H5
  iexists d6; iexact H6

/-- The body at points 8 to 15. -/
theorem body1_b (c : Dev nD) (t : Fin cfg1.N) (h : 8 ≤ t.val) (h' : t.val < 16) :
    bodyPre1 V c t ⊢ wp frame (wpE (defs₀ (F := F)) Variants.none c none) Set.univ (bodyAt1 t) (fun _ => bodyPost1 V c t) := by
  have hN : t.val < 32 := lt_of_lt_of_eq t.isLt N_1
  unfold bodyPre1 bodyPost1 bodyAt1
  simp only [before1_0, before1_1, before1_2, before1_3, before1_4]
  rw [show (dat1 V c).Φ t.castSucc = tables V c t.val from rfl, show (dat1 V c).Φ t.succ = tables V c (t.val + 1) from rfl,
    show (dat1 V c).owesAt () t.succ = (dat1 V c).owesAt () t.castSucc from rfl,
    leaves1_0, leaves1_1, leaves1_2, leaves1_3, leaves1_4, leaves1_5_idle V c t (by omega) (by omega), leaves1_6_idle V c t (by omega)]
  unfold tables
  iintro ⟨⟨⟨%s0, %s1, %s2, %s3, %s4, %hI, HS0, HS1, HS2, HS3, HS4⟩, Hr, Hg⟩, Ho, ⟨%d0, H0⟩, ⟨%d1, H1⟩, ⟨%d2, H2⟩, ⟨%d3, H3⟩, ⟨%d4, H4⟩, ⟨%d5, H5⟩, ⟨%d6, H6⟩⟩
  iapply (run_b c Set.univ (grid1.coords t) _ _ _ _ _ _ _ _ _ _ _ _ _ _ _ _ _ _ _ _ _ _ _ _ (fun hh => by have := (first_iff t).mp hh; omega) (fun hh => by have := (cond2_iff t).mp hh; omega) ((cond3_iff t).mpr (by omega)) (fun hh => by have := (cond4_iff t).mp hh; omega) (fun hh => by have := (cond5_iff t).mp hh; omega) (iblk1 V c 1 t) s1 s2 s4 _)
  isplitl [H1]; · iexact H1
  isplitl [HS1]; · iexact HS1
  isplitl [HS2]; · iexact HS2
  isplitl [HS4]; · iexact HS4
  iintro ⟨H1, HS1, HS2, HS4⟩
  isplitl [HS0 HS1 HS2 HS3 HS4 Hr Hg]
  · isplitl [HS0 HS1 HS2 HS3 HS4]
    · iexists _; iexists _; iexists _; iexists _; iexists _
      isplitr; · ipureintro; exact hI.step_b h h'
      isplitl [HS0]; · iexact HS0
      isplitl [HS1]; · iexact HS1
      isplitl [HS2]; · iexact HS2
      isplitl [HS3]; · iexact HS3
      iexact HS4
    isplitl [Hr]; · iexact Hr
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists d5; iexact H5
  iexists d6; iexact H6

/-- The body at points 16 to 23. -/
theorem body1_c (c : Dev nD) (t : Fin cfg1.N) (h : 16 ≤ t.val) (h' : t.val < 24) :
    bodyPre1 V c t ⊢ wp frame (wpE (defs₀ (F := F)) Variants.none c none) Set.univ (bodyAt1 t) (fun _ => bodyPost1 V c t) := by
  have hN : t.val < 32 := lt_of_lt_of_eq t.isLt N_1
  unfold bodyPre1 bodyPost1 bodyAt1
  simp only [before1_0, before1_1, before1_2, before1_3, before1_4]
  rw [show (dat1 V c).Φ t.castSucc = tables V c t.val from rfl, show (dat1 V c).Φ t.succ = tables V c (t.val + 1) from rfl,
    show (dat1 V c).owesAt () t.succ = (dat1 V c).owesAt () t.castSucc from rfl,
    leaves1_0, leaves1_1, leaves1_2, leaves1_3, leaves1_4, leaves1_5_live V c t ⟨h, h'⟩, show res5 V c t.val = out5 (blk0 V c) (blk1 V c) (blk2 V c) (blk3 V c) (blk4 V c) (t.val - 16) (by omega) by unfold res5; congr 1; omega, leaves1_6_idle V c t (by omega)]
  unfold tables
  iintro ⟨⟨⟨%s0, %s1, %s2, %s3, %s4, %hI, HS0, HS1, HS2, HS3, HS4⟩, Hr, Hg⟩, Ho, ⟨%d0, H0⟩, ⟨%d1, H1⟩, ⟨%d2, H2⟩, ⟨%d3, H3⟩, ⟨%d4, H4⟩, ⟨%d5, H5⟩, ⟨%d6, H6⟩⟩
  iapply (run_c c Set.univ (grid1.coords t) _ _ _ _ _ _ _ _ _ _ _ _ _ _ _ _ _ _ _ _ _ _ _ _ (fun hh => by have := (first_iff t).mp hh; omega) (fun hh => by have := (cond2_iff t).mp hh; omega) (fun hh => by have := (cond3_iff t).mp hh; omega) ((cond4_iff t).mpr (by omega)) (fun hh => by have := (cond5_iff t).mp hh; omega) (iblk1 V c 0 t) (iblk1 V c 2 t) _ s1 s2 s3 _)
  isplitl [H0]; · iexact H0
  isplitl [H2]; · iexact H2
  isplitl [H5]; · iexact H5
  isplitl [HS1]; · iexact HS1
  isplitl [HS2]; · iexact HS2
  isplitl [HS3]; · iexact HS3
  iintro ⟨H0, H2, H5, HS1, HS2, HS3⟩
  isplitl [HS0 HS1 HS2 HS3 HS4 Hr Hg]
  · isplitl [HS0 HS1 HS2 HS3 HS4]
    · iexists _; iexists _; iexists _; iexists _; iexists _
      isplitr; · ipureintro; exact hI.step_c h h'
      isplitl [HS0]; · iexact HS0
      isplitl [HS1]; · iexact HS1
      isplitl [HS2]; · iexact HS2
      isplitl [HS3]; · iexact HS3
      iexact HS4
    isplitl [Hr]; · iexact Hr
    iexact Hg
  isplitl [Ho]; · iexact Ho
  isplitl [H0]; · iexact H0
  isplitl [H1]; · iexact H1
  isplitl [H2]; · iexact H2
  isplitl [H3]; · iexact H3
  isplitl [H4]; · iexact H4
  isplitl [H5]; · rw [← hI.out_c (blk2 V c) h h']; iexact H5
  iexists d6; iexact H6

/-- The body at points 24 to 30, which leave the first result's buffer alone -/
theorem body1_d (c : Dev nD) (t : Fin cfg1.N) (h : 24 ≤ t.val) (h' : t.val ≠ 31) :
    bodyPre1 V c t ⊢ wp frame (wpE (defs₀ (F := F)) Variants.none c none) Set.univ (bodyAt1 t) (fun _ => bodyPost1 V c t) := by
  have hN : t.val < 32 := lt_of_lt_of_eq t.isLt N_1
  unfold bodyPre1 bodyPost1 bodyAt1
  simp only [before1_0, before1_1, before1_2, before1_3, before1_4]
  rw [show (dat1 V c).Φ t.castSucc = tables V c t.val from rfl, show (dat1 V c).Φ t.succ = tables V c (t.val + 1) from rfl,
    show (dat1 V c).owesAt () t.succ = (dat1 V c).owesAt () t.castSucc from rfl,
    leaves1_0, leaves1_1, leaves1_2, leaves1_3, leaves1_4, leaves1_5_idle V c t (by omega) (by omega), leaves1_6_live V c t h, show res6 V c t.val = out6 (blk0 V c) (blk1 V c) (blk3 V c) (blk4 V c) (t.val - 24) (by omega) by unfold res6; congr 1; omega]
  unfold tables
  iintro ⟨⟨⟨%s0, %s1, %s2, %s3, %s4, %hI, HS0, HS1, HS2, HS3, HS4⟩, Hr, Hg⟩, Ho, ⟨%d0, H0⟩, ⟨%d1, H1⟩, ⟨%d2, H2⟩, ⟨%d3, H3⟩, ⟨%d4, H4⟩, ⟨%d5, H5⟩, ⟨%d6, H6⟩⟩
  iapply (run_d c Set.univ (grid1.coords t) _ _ _ _ _ _ _ _ _ _ _ _ _ _ _ _ _ _ _ _ _ _ _ _ (fun hh => by have := (first_iff t).mp hh; omega) (fun hh => by have := (cond2_iff t).mp hh; omega) (fun hh => by have := (cond3_iff t).mp hh; omega) (fun hh => by have := (cond4_iff t).mp hh; omega) ((cond5_iff t).mpr (by omega)) (iblk1 V c 1 t) (iblk1 V c 3 t) _ s3 s4 _)
  isplitl [H1]; · iexact H1
  isplitl [H3]; · iexact H3
  isplitl [H6]; · iexact H6
  isplitl [HS3]; · iexact HS3
  isplitl [HS4]; · iexact HS4
  iintro ⟨H1, H3, H6, HS3, HS4⟩
  isplitl [HS0 HS1 HS2 HS3 HS4 Hr Hg]
  · isplitl [HS0 HS1 HS2 HS3 HS4]
    · iexists _; iexists _; iexists _; iexists _; iexists _
      isplitr; · ipureintro; exact hI.step_d h
      isplitl [HS0]; · iexact HS0
      isplitl [HS1]; · iexact HS1
      isplitl [HS2]; · iexact HS2
      isplitl [HS3]; · iexact HS3
      iexact HS4
    isplitl [Hr]; · iexact Hr
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists d5; iexact H5
  rw [← hI.out_d h]; iexact H6

/-- and at the last point, which writes it back. -/
theorem body1_last (c : Dev nD) (t : Fin cfg1.N) (h : 24 ≤ t.val) (h' : t.val = 31) :
    bodyPre1 V c t ⊢ wp frame (wpE (defs₀ (F := F)) Variants.none c none) Set.univ (bodyAt1 t) (fun _ => bodyPost1 V c t) := by
  have hN : t.val < 32 := lt_of_lt_of_eq t.isLt N_1
  unfold bodyPre1 bodyPost1 bodyAt1
  simp only [before1_0, before1_1, before1_2, before1_3, before1_4]
  rw [show (dat1 V c).Φ t.castSucc = tables V c t.val from rfl, show (dat1 V c).Φ t.succ = tables V c (t.val + 1) from rfl,
    show (dat1 V c).owesAt () t.succ = (dat1 V c).owesAt () t.castSucc from rfl,
    leaves1_0, leaves1_1, leaves1_2, leaves1_3, leaves1_4, leaves1_5_last V c t h', leaves1_6_live V c t h, show res6 V c t.val = out6 (blk0 V c) (blk1 V c) (blk3 V c) (blk4 V c) (t.val - 24) (by omega) by unfold res6; congr 1; omega]
  unfold tables
  iintro ⟨⟨⟨%s0, %s1, %s2, %s3, %s4, %hI, HS0, HS1, HS2, HS3, HS4⟩, Hr, Hg⟩, Ho, ⟨%d0, H0⟩, ⟨%d1, H1⟩, ⟨%d2, H2⟩, ⟨%d3, H3⟩, ⟨%d4, H4⟩, ⟨%d5, H5⟩, ⟨%d6, H6⟩⟩
  iapply (run_d c Set.univ (grid1.coords t) _ _ _ _ _ _ _ _ _ _ _ _ _ _ _ _ _ _ _ _ _ _ _ _ (fun hh => by have := (first_iff t).mp hh; omega) (fun hh => by have := (cond2_iff t).mp hh; omega) (fun hh => by have := (cond3_iff t).mp hh; omega) (fun hh => by have := (cond4_iff t).mp hh; omega) ((cond5_iff t).mpr (by omega)) (iblk1 V c 1 t) (iblk1 V c 3 t) _ s3 s4 _)
  isplitl [H1]; · iexact H1
  isplitl [H3]; · iexact H3
  isplitl [H6]; · iexact H6
  isplitl [HS3]; · iexact HS3
  isplitl [HS4]; · iexact HS4
  iintro ⟨H1, H3, H6, HS3, HS4⟩
  isplitl [HS0 HS1 HS2 HS3 HS4 Hr Hg]
  · isplitl [HS0 HS1 HS2 HS3 HS4]
    · iexists _; iexists _; iexists _; iexists _; iexists _
      isplitr; · ipureintro; exact hI.step_d h
      isplitl [HS0]; · iexact HS0
      isplitl [HS1]; · iexact HS1
      isplitl [HS2]; · iexact HS2
      isplitl [HS3]; · iexact HS3
      iexact HS4
    isplitl [Hr]; · iexact Hr
    iexact Hg
  isplitl [Ho]; · iexact Ho
  isplitl [H0]; · iexact H0
  isplitl [H1]; · iexact H1
  isplitl [H2]; · iexact H2
  isplitl [H3]; · iexact H3
  isplitl [H4]; · iexact H4
  isplitl [H5]; · rw [← before1_5_last V c t h' d5]; iexact H5
  rw [← hI.out_d h]; iexact H6

theorem sound_body1 (c : Dev nD) (t : Fin cfg1.N) :
    bodyPre1 V c t ⊢ wp frame (wpE (defs₀ (F := F)) Variants.none c none) Set.univ (bodyAt1 t) (fun _ => bodyPost1 V c t) := by
  by_cases h0 : t.val = 0
  · exact body1_first V c t h0
  by_cases h1 : t.val < 8
  · exact body1_a V c t h0 h1
  by_cases h2 : t.val < 16
  · exact body1_b V c t (by omega) h2
  by_cases h3 : t.val < 24
  · exact body1_c V c t (by omega) h3
  by_cases h4 : t.val = 31
  · exact body1_last V c t (by omega) h4
  · exact body1_d V c t (by omega) h4

theorem defs₀_row1 (t : Fin cfg1.N) :
    defs₀ (F := F) .tc cfg1.body (cfg1.bodyArgs t (cfg1.slots t)) = bodyAt1 t := by
  unfold defs₀; rw [Defs.onTc_tc]

/-- The body at every point takes the invariant, the windows' buffers and the arrays from one point to the next. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-! ## The invariant at the two ends -/

/-- What the launch hands the call is the invariant before the first point. -/
theorem hin1 (c : Dev nD) : Pipeline.ΦA spec1 c ⊢ (dat1 (F := F) V c).Φ 0 := by
  rw [show (dat1 V c).Φ 0 = tables V c 0 from rfl]
  unfold Pipeline.ΦA tables
  rw [scopedRest1_split]
  simp only [sc0, sc1, sc2, sc3, sc4, owns_whole]
  iintro ⟨⟨⟨⟨%s0, H0⟩, ⟨%s1, H1⟩, ⟨%s2, H2⟩, ⟨%s3, H3⟩, ⟨%s4, H4⟩⟩, Hr⟩, Hg⟩
  isplitl [H0 H1 H2 H3 H4]
  · iexists s0; iexists s1; iexists s2; iexists s3; iexists s4
    isplitr; · ipureintro; exact Inv.start
    isplitl [H0]; · iexact H0
    isplitl [H1]; · iexact H1
    isplitl [H2]; · iexact H2
    isplitl [H3]; · iexact H3
    iexact H4
  isplitl [Hr]; · iexact Hr
  iexact Hg

/-- After the last point the tables' contents are forgotten. -/
theorem hout1 (c : Dev nD) : (dat1 (F := F) V c).Φ (Fin.last cfg1.N) ⊢ Pipeline.ΦA spec1 c := by
  rw [show (dat1 V c).Φ (Fin.last cfg1.N) = tables V c cfg1.N from rfl]
  unfold Pipeline.ΦA tables
  rw [scopedRest1_split]
  simp only [sc0, sc1, sc2, sc3, sc4, owns_whole]
  iintro ⟨⟨%s0, %s1, %s2, %s3, %s4, %hI, H0, H1, H2, H3, H4⟩, Hr, Hg⟩
  isplitl [H0 H1 H2 H3 H4 Hr]
  · isplitl [H0 H1 H2 H3 H4]
    · isplitl [H0]; · iexists s0; iexact H0
      isplitl [H1]; · iexists s1; iexact H1
      isplitl [H2]; · iexists s2; iexact H2
      isplitl [H3]; · iexists s3; iexact H3
      iexists s4; iexact H4
    iexact Hr
  iexact Hg

end Cert.KernelIdeal.Run

end
-- ==== Proof.Whole.lean ====
/- The whole program: the four bias reshapes, then the two calls, as three segments from the launch to the return; what
   every buffer holds at each boundary, the run itself, and the frame. -/
module

public import proofs.«01_k».proof.Proof.Encode
public import proofs.«01_k».proof.Proof.Steps
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's argument arrays, as TensorCore references: what the frame claim reads back. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20]

/-! ## The host stretches: none allocates a buffer, and each lists the references its operations write, in order,
    so that a reference absent from the list keeps its contents across the stretch -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2, main_v3]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what the first call's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (region 1's entry). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact (dat0 (V1 m ρ) c).withArrays_arrAt launch₀0.sharedIn _ (A_eq0 (V1 m ρ) c) w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of `unscopedBufs_of_arrays_shared`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, each output's write-backs
    folded: `Dat.arrAt … N`), every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of region 1's OUTPUT arrays keeps its entry contents across it: an input window's
    array is never written back (`Dat.arrAt_in`, `A_eq1`); any other buffer is left as is. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves (`hF1`) and every other buffer what it
    held at entry (`hrest1`): the two hypotheses of `unscopedBufs_of_arrays`. -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W3`, the generator register at some state. -/
abbrev Tₙ (c : Dev nD) : sProp 𝕄 := iprop(StableHlo.held (c : Thread nD τ) (Pipeline.ucRefs τ sig) (W3 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- The first call over the thread state: entered from every unscoped buffer at `W1`, left at `W2`
    (what the next segment is entered from). Its arrays split out of the unscoped buffers
    (`arrays_of_unscopedBufs_shared`) and put back at the exit contents (`unscopedBufs_of_arrays_shared`; its input windows on one array (`launch₀0.sharedIn`) each dealt their share of it, `Pipeline.shareOf`, by the proof data); the generator register into the
    class invariant `ΦA` and out; nothing owed; no semaphore of the kernel's own. -/
def reg0 : Pipeline.RegionSeg (pcfgs (F := F)) adm (pdats m ρ) () defs₀ 𝒱₀ L lv 0 where
  win := launch₀0.win
  block_pos := launch₀0.block_pos
  stage_whole := launch₀0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs_shared (p := 0) (pcfgs (F := F)) adm (pdats m ρ) launch₀0.win launch₀0.sharedIn launch₀0.arr_whole c
      (fun _ _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays_shared (p := 0) (pcfgs (F := F)) adm (Ix := Unit) (Name := ℕ) (U := UR sig nD τ) (Lvl := ℕ)
      launch₀0.win launch₀0.sharedIn launch₀0.arr_whole c (pdats m ρ) (fun _ _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- The second call over the thread state: entered from every unscoped buffer at `W2`, left at `W3`
    (what the launch reads at the end). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin1 (V2 m ρ) c
    unfold Pipeline.ΦA at h
    rw [show (pdats m ρ 1 c).Φ 0 = (dat1 (V2 m ρ) c).Φ 0 from rfl]
    iintro ⟨Hp, -, Hr⟩
    iapply h
    isplitl [Hr]; · iexact Hr
    iexact Hp
  hout c := by
    have h := hout1 (V2 m ρ) c
    unfold Pipeline.ΦA at h
    rw [Pipeline.ownSems0_none, show (pdats m ρ 1 c).Φ (Fin.last _) = (dat1 (V2 m ρ) c).Φ (Fin.last cfg1.N) from rfl]
    iintro H
    ihave H2 := h $$ H
    icases H2 with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 3 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- The whole run, from any memory with zero counters: it terminates, every unscoped buffer ends at the last boundary's
    contents, and every semaphore counter at zero. -/
theorem run : θ_run defs (onTc (τ := τ) (main (F := F))) ⟨m, fun _ => 0, ρ⟩ (fun r =>
      (∀ c : Dev nD, ∀ b ∈ Pipeline.ucRefs τ sig, r.2.mem (((c : Thread nD τ)).1, b) = W3 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => ⟨h, funext fun g => hz g (.inr (no_unscoped g.2))⟩)

/-- What an unscoped buffer ends at. -/
theorem run_at {r : (ℓ : Loc nD τ sig) → Buf (Elt F) ℓ} (h : ∀ c : Dev nD, ∀ b ∈ Pipeline.ucRefs τ sig, r (((c : Thread nD τ)).1, b) = W3 m ρ c b) (c : Dev nD) (b : Ref sig .tc)
    (hb : ¬ (Proc.devRef .tc b : DevRef τ sig).isScoped) : r ((c.tc : Thread nD τ).loc b) = W3 m ρ c (Proc.devRef .tc b) :=
  h c _ (mem_uc b hb)

/-- No argument is a scoped buffer. -/
theorem args_unscoped : ∀ a ∈ argRefs, ¬ (Proc.devRef .tc a : DevRef τ sig).isScoped := by decide

/-- The argument arrays end as they began. -/
theorem run_args {r : (ℓ : Loc nD τ sig) → Buf (Elt F) ℓ} (h : ∀ c : Dev nD, ∀ b ∈ Pipeline.ucRefs τ sig, r (((c : Thread nD τ)).1, b) = W3 m ρ c b) (c : Dev nD) :
    ∀ a ∈ argRefs, r ((c.tc : Thread nD τ).loc a) = m ((c.tc : Thread nD τ).loc a) :=
  fun a ha => (run_at m ρ h c a (args_unscoped a ha)).trans (W3_args m ρ c a ha)

/-- The frame: the run terminates, the argument arrays end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20))
      ∧ r.2.sem = fun _ => 0) :=
  (θ_run defs _ _).mono (fun r h => ⟨fun c => by
      have ha := run_args (r := r.2.mem) m ρ h.1 c
      exact ⟨ha main_arg0 (by decide), ha main_arg1 (by decide), ha main_arg2 (by decide), ha main_arg3 (by decide), ha main_arg4 (by decide), ha main_arg5 (by decide), ha main_arg6 (by decide), ha main_arg7 (by decide), ha main_arg8 (by decide), ha main_arg9 (by decide), ha main_arg10 (by decide), ha main_arg11 (by decide), ha main_arg12 (by decide), ha main_arg13 (by decide), ha main_arg14 (by decide), ha main_arg15 (by decide), ha main_arg16 (by decide), ha main_arg17 (by decide), ha main_arg18 (by decide), ha main_arg19 (by decide), ha main_arg20 (by decide)⟩, h.2⟩) (run m ρ)

end Cert.KernelIdeal.Run

end
-- ==== Proof.Frames.lean ====
/- The frames: each program, run from any memory with zero counters, terminates with its arguments unchanged and every
   counter at zero. The kernel's program read at floats and read at extended reals is one text, so one run serves both. -/
module

public import proofs.«01_k».proof.Defs
public import proofs.«01_k».proof.Proof.Whole
public import proofs.«01_k».proof.Proof.Gen.Kernel
public import proofs.«01_k».proof.Proof.Gen.KernelIdeal
public import proofs.«01_k».proof.Proof.Gen.ReferenceIdeal.Run
public import proofs.«01_k».proof.Proof.Gen.ReferenceIdeal
public import Idealize.ShloMosaic.Lib.Pipeline.Regions

@[expose] public section

set_option maxRecDepth 16384

noncomputable section

namespace Cert.KernelIdeal.Run

open Idealize.ShloMosaic Idealize.ShloMosaic.TcCoe Idealize.SL.Sem
open Cert.KernelIdeal.Gen

/-- The frame of the kernel's program at the float instance `F`, at every memory and generator state. -/
def Framed (F : FTy → Type) [FloatOps F] : Prop :=
  ∀ (m : (ℓ : Loc nD τ sig) → Buf (Elt F) ℓ) (g : Dev nD → PrngReg), True →
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20))
      ∧ r.2.sem = fun _ => 0)

/-- The frame holds at every float instance. -/
theorem framed (F : FTy → Type) [FloatOps F] : Framed F := fun m g _ => frame m g

end Cert.KernelIdeal.Run

namespace Cert.Proof

open Idealize.ShloMosaic Idealize.ShloMosaic.TcCoe Idealize.ShloMosaic.Pipeline Idealize.SL.Sem

/-- The frame of the printed kernel is the frame of its ideal reading's text at the bit-exact instance: the two texts agree. -/
theorem kernel_text : Cert.quiescent_Kernel (hKernel := Cert.Kernel.Gen.facts) = Cert.KernelIdeal.Run.Framed Bits := by chain_rfl

/-- The kernel's frame. -/
theorem kernel_frame : Cert.quiescent_Kernel (hKernel := Cert.Kernel.Gen.facts) := by
  rw [kernel_text]; exact Cert.KernelIdeal.Run.framed Bits

/-- The ideal kernel's frame. -/
theorem ideal_frame : Cert.quiescent_KernelIdeal (hKernelIdeal := Cert.KernelIdeal.Gen.facts) :=
  fun m g _ => Cert.KernelIdeal.Run.frame m g

/-- The reference's frame. -/
theorem reference_frame : Cert.quiescent_ReferenceIdeal (hReferenceIdeal := Cert.ReferenceIdeal.Gen.facts) :=
  fun m g _ => (θ_run _ _ _).mono (fun r h => ⟨fun c => (h c).2.2, Idealize.ShloMosaic.sem_eq_zero_of_no_sems (by decide) r.2⟩) (Cert.ReferenceIdeal.Value.run m g)

end Cert.Proof

end
-- ==== Proof.Maths.lean ====
/- The functions both programs compute, over plain matrices of extended reals: rows of products, the leaky rectifier, the
   encoders, the normalised rows and the softmax of rows. -/
module

public import Idealize.ShloMosaic.PureOps.Ideal
public import Idealize.ShloMosaic.Lib.Pointwise

@[expose] public section

noncomputable section

namespace Cert.Maths

open Idealize.ShloMosaic

/-- A matrix of extended reals. -/
abbrev Mat (n k : ℕ) := Fin n → Fin k → EReal

/-- A rank-2 array read as a matrix. -/
def mat {n k : ℕ} {φ : FTy} (x : FVec Ideal ⟨2, ![n, k]⟩ φ) : Mat n k := fun i j => x (ix2 i j)

/-- A rank-1 array read as a row. -/
def vec {n : ℕ} {φ : FTy} (x : FVec Ideal ⟨1, ![n]⟩ φ) : Fin n → EReal := fun i => x (ix1 i)

/-- The programs' constants: the leaky slope, the norm's floor, the two mixing rates, a half, two and three. -/
def slope : EReal := Ideal.ofBits .f32 0x3C23D70A#32
def tiny : EReal := Ideal.ofBits .f32 0x2B8CBCCC#32
def idRate : EReal := Ideal.ofBits .f32 0x3EB851EC#32
def catRate : EReal := Ideal.ofBits .f32 0x3CA3D70A#32
def half : EReal := Ideal.ofBits .f32 0x3F000000#32
def three : EReal := Ideal.ofBits .f32 0x40400000#32
/-- What a maximum starts from. -/
def bottom : EReal := Ideal.ofBits .f32 0xFF800000#32

/-- A row times a matrix. -/
def rowMul {n k : ℕ} (x : Fin n → EReal) (B : Mat n k) : Fin k → EReal := fun j => ∑ p, x p * B p j

/-- The product of two matrices, row by row. -/
def mul {n k l : ℕ} (A : Mat n k) (B : Mat k l) : Mat n l := fun i => rowMul (A i) B

/-- The leaky rectifier. -/
def lrelu (x : EReal) : EReal := if 0 ≤ x then x else slope * x

/-- One dense layer of a row, rectified. -/
def layer {n k : ℕ} (x : Fin n → EReal) (W : Mat n k) (b : Fin k → EReal) : Fin k → EReal := fun j => lrelu (rowMul x W j + b j)

/-- An encoder of a row: two dense layers, each rectified. -/
def enc {n k l : ℕ} (x : Fin n → EReal) (W1 : Mat n k) (b1 : Fin k → EReal) (W2 : Mat k l) (b2 : Fin l → EReal) : Fin l → EReal :=
  layer (layer x W1 b1) W2 b2

/-- A row divided by its norm, or by the floor when the norm is below it. -/
def nrm {n : ℕ} (x : Fin n → EReal) : Fin n → EReal := fun j => Ideal.div (x j) (max (Ideal.sqrt (∑ k, x k * x k)) tiny)

/-- The greatest element of a row. -/
def top {n : ℕ} (x : Fin n → EReal) : EReal := Finset.univ.fold max bottom fun k => x k

/-- The softmax of a row. -/
def soft {n : ℕ} (x : Fin n → EReal) : Fin n → EReal := fun j => Ideal.div (Ideal.exp (x j - top x)) (∑ k, Ideal.exp (x k - top x))

/-- The sum of the four square blocks stacked in the output weights. -/
def blocks (w : Mat 256 64) : Mat 64 64 := fun p q =>
  w ⟨p, by omega⟩ q + w ⟨64 + p, by omega⟩ q + w ⟨128 + p, by omega⟩ q + w ⟨192 + p, by omega⟩ q

/-- The embedding table through the summed blocks, halved. -/
def gate (e : Mat 4096 64) (w : Mat 256 64) : Mat 4096 64 := fun p q => rowMul (e p) (blocks w) q * half

/-- One row of the attention's closed form: the sum of the two graphs' rows times the table `gate`. -/
def fuse (a b : Fin 4096 → EReal) (e : Mat 4096 64) (w : Mat 256 64) : Fin 64 → EReal := rowMul (fun p => a p + b p) (gate e w)

/-- One row of the starting table: the embedding's row `x` with the normalised attention row `u` mixed in. -/
def start (x u : Fin 64 → EReal) : Fin 64 → EReal := fun j => x j + idRate * nrm u j

/-- A row's mean of three, and the two normalised rows mixed in. -/
def finish {n : ℕ} (a b c f0 f1 : Fin n → EReal) : Fin n → EReal :=
  fun j => Ideal.div (a j + b j + c j) three + catRate * (nrm f0 j + nrm f1 j)

/-! ## The propagation: four tables of 192 columns, each the graph times the one before -/

/-- Columns 0 to 63, 64 to 127 and 128 to 191 of a row of 192. -/
def left (x : Fin 192 → EReal) : Fin 64 → EReal := fun q => x ⟨q, by omega⟩
def middle (x : Fin 192 → EReal) : Fin 64 → EReal := fun q => x ⟨64 + q, by omega⟩
def right (x : Fin 192 → EReal) : Fin 64 → EReal := fun q => x ⟨128 + q, by omega⟩

/-- The two encoders' table beside the items' table. -/
def beside {n : ℕ} (f : Mat n 128) (g : Mat n 64) : Mat n 192 := fun i j =>
  if h : j.val < 128 then f i ⟨j.val, h⟩ else g i ⟨j.val - 128, by omega⟩

/-- A table with the softmax taken of each row's last 64 columns. -/
def softened {n : ℕ} (T : Mat n 192) : Mat n 192 := fun i j =>
  if j.val < 128 then T i j else soft (right (T i)) ⟨j.val - 128, by omega⟩

/-- The second table: the users' graph times the first. -/
def tab1 (ui : Mat 4096 4096) (f : Mat 4096 128) (g : Mat 4096 64) : Mat 4096 192 := mul ui (beside f g)
/-- The items' graph times the second table. -/
def tabI (ui iu : Mat 4096 4096) (f : Mat 4096 128) (g : Mat 4096 64) : Mat 4096 192 := mul iu (tab1 ui f g)
/-- The fourth table: the users' graph times the softened third. -/
def tab3 (ui iu : Mat 4096 4096) (f : Mat 4096 128) (g : Mat 4096 64) : Mat 4096 192 := mul ui (softened (tabI ui iu f g))
/-- The items' graph times the fourth table. -/
def tab4 (ui iu : Mat 4096 4096) (f : Mat 4096 128) (g : Mat 4096 64) : Mat 4096 192 := mul iu (tab3 ui iu f g)

/-- The users' result, from the two graphs, the users' starting table, the encoders' table and the items' starting table. -/
def resU (ui iu : Mat 4096 4096) (u : Mat 4096 64) (f : Mat 4096 128) (g : Mat 4096 64) : Mat 4096 64 := fun i =>
  finish (u i) (right (tab1 ui f g i)) (right (tab3 ui iu f g i)) (left (tab3 ui iu f g i)) (middle (tab3 ui iu f g i))

/-- The items' result. -/
def resI (ui iu : Mat 4096 4096) (f : Mat 4096 128) (g : Mat 4096 64) : Mat 4096 64 := fun i =>
  finish (g i) (right (tabI ui iu f g i)) (right (tab4 ui iu f g i)) (left (tab4 ui iu f g i)) (middle (tab4 ui iu f g i))

end Cert.Maths

end
-- ==== Proof.Pay.lean ====
/- What the two calls' bodies store, in closed form: every stored vector read at an index, over the vectors the body loaded. -/
module

public import proofs.«01_k».proof.Proof.Gen.KernelIdeal.Skeleton
public import proofs.«01_k».proof.Proof.Maths
public import Idealize.ShloMosaic.Lib.Pointwise

@[expose] public section

set_option maxRecDepth 16384

noncomputable section

namespace Cert.KernelIdeal.Run

open Idealize.ShloMosaic Idealize.ShloMosaic.TcCoe Idealize.SL.Sem
open Cert.KernelIdeal Cert.KernelIdeal.Gen Cert.Maths

/-- The first call's user rows. -/
theorem pay_users (a b : FVec Ideal S256x4096 .f32) (e : FVec Ideal S4096x64 .f32) (w x : FVec Ideal S256x64 .f32) (i : Fin 256) (j : Fin 64) :
    k0_pay6 (F := Ideal) (k0_pay3 w e a b) x (k0_pay5 w e a b) (ix2 i j) = start (mat x i) (fuse (mat a i) (mat b i) (mat e) (mat w)) j := by
  pointwise [k0_pay6, k0_pay3, k0_pay5, k0_pay2]
  rfl

/-- The first call's item rows. -/
theorem pay_items (a b : FVec Ideal S256x4096 .f32) (e : FVec Ideal S4096x64 .f32) (w x : FVec Ideal S256x64 .f32) (i : Fin 256) (j : Fin 64) :
    k0_pay7 (F := Ideal) (k0_pay4 w e a b) x (ix2 i j) = start (mat x i) (fuse (mat a i) (mat b i) (mat e) (mat w)) j := by
  pointwise [k0_pay7, k0_pay4, k0_pay2]
  rfl

/-- The first call's rows of the first encoder. -/
theorem pay_enc0 (f : FVec Ideal S256x4096 .f32) (W1 : FVec Ideal S4096x64 .f32) (b1 : FVec Ideal S1x64 .f32) (W2 : FVec Ideal S64x64 .f32)
    (b2 : FVec Ideal S1x64 .f32) (i : Fin 256) (j : Fin 64) :
    k0_pay9 (F := Ideal) (k0_pay8 f W1 b1) W2 b2 (ix2 i j) = enc (mat f i) (mat W1) (mat b1 0) (mat W2) (mat b2 0) j := by
  pointwise [k0_pay9, k0_pay8]
  rfl

/-- The first call's rows of the second encoder. -/
theorem pay_enc1 (f : FVec Ideal S256x384 .f32) (W1 : FVec Ideal S384x64 .f32) (b1 : FVec Ideal S1x64 .f32) (W2 : FVec Ideal S64x64 .f32)
    (b2 : FVec Ideal S1x64 .f32) (i : Fin 256) (j : Fin 64) :
    k0_pay1 (F := Ideal) (k0_pay10 f W1 b1 W2 b2) (Scalar.ofBits .f32 0x00000000#32) (ix2 i j)
      = enc (mat f i) (mat W1) (mat b1 0) (mat W2) (mat b2 0) j := by
  pointwise [k0_pay1, k0_pay10]
  rfl

/-- The second call's copy of the encoders' table. -/
theorem pay_copy (x : FVec Ideal S4096x128 .bf16) (i : Fin 4096) (j : Fin 128) : k1_pay1 (F := Ideal) x (ix2 i j) = mat x i j := by
  pointwise [k1_pay1]
  rfl

/-- The second call's copy of the items' table. -/
theorem pay_round (x : FVec Ideal S4096x64 .f32) (i : Fin 4096) (j : Fin 64) : k1_pay2 (F := Ideal) x (ix2 i j) = mat x i j := by
  pointwise [k1_pay2]
  rfl

/-- A block of rows times the first table. -/
theorem pay_first (x : FVec Ideal S512x4096 .f32) (T : FVec Ideal S4096x192 .bf16) (i : Fin 512) (j : Fin 192) :
    k1_pay3 (F := Ideal) x T (ix2 i j) = rowMul (mat x i) (mat T) j := by
  pointwise [k1_pay3]
  rfl

/-- A block of rows times the second table: its columns below 128. -/
theorem pay_second (x : FVec Ideal S512x4096 .f32) (T : FVec Ideal S4096x192 .bf16) (i : Fin 512) (j : Fin 128) :
    k1_pay5 (F := Ideal) x T (ix2 i j) = rowMul (mat x i) (mat T) ⟨j, by omega⟩ := by
  pointwise [k1_pay5, k1_pay4]
  rfl

/-- A block of rows times the second table: its last 64 columns. -/
theorem pay_third (x : FVec Ideal S512x4096 .f32) (T : FVec Ideal S4096x192 .bf16) (i : Fin 512) (j : Fin 64) :
    k1_pay7 (F := Ideal) x T (ix2 i j) = rowMul (mat x i) (mat T) ⟨128 + j, by omega⟩ := by
  pointwise [k1_pay7, k1_pay6, k1_pay4]
  rfl

/-- The softmax of those last 64 columns. -/
theorem pay_soft (x : FVec Ideal S512x4096 .f32) (T : FVec Ideal S4096x192 .bf16) (i : Fin 512) (j : Fin 64) :
    k1_pay8 (F := Ideal) x T (ix2 i j) = soft (right (rowMul (mat x i) (mat T))) j := by
  pointwise [k1_pay8, k1_pay6, k1_pay4]
  rfl

/-- A block of rows times the third table. -/
theorem pay_fourth (x : FVec Ideal S512x4096 .f32) (T : FVec Ideal S4096x192 .bf16) (i : Fin 512) (j : Fin 192) :
    k1_pay12 (F := Ideal) x T (ix2 i j) = rowMul (mat x i) (mat T) j := by
  pointwise [k1_pay12, k1_pay11]
  rfl

/-- The users' result rows. -/
theorem pay_ufin (x : FVec Ideal S512x4096 .f32) (T : FVec Ideal S4096x192 .bf16) (u : FVec Ideal S512x64 .bf16) (g : FVec Ideal S512x64 .f32)
    (i : Fin 512) (j : Fin 64) :
    k1_pay9 (F := Ideal) (k1_pay13 x T u g) (k1_pay14 x T) (ix2 i j)
      = finish (mat g i) (mat u i) (right (rowMul (mat x i) (mat T))) (left (rowMul (mat x i) (mat T))) (middle (rowMul (mat x i) (mat T))) j := by
  pointwise [k1_pay9, k1_pay13, k1_pay14, k1_pay11]
  rfl

/-- The items' result rows. -/
theorem pay_ifin (x : FVec Ideal S512x4096 .f32) (T : FVec Ideal S4096x192 .bf16) (g : FVec Ideal S512x64 .f32) (u : FVec Ideal S512x64 .bf16)
    (i : Fin 512) (j : Fin 64) :
    k1_pay10 (F := Ideal) x T g u (ix2 i j)
      = finish (mat g i) (mat u i) (right (rowMul (mat x i) (mat T))) (left (rowMul (mat x i) (mat T))) (middle (rowMul (mat x i) (mat T))) j := by
  pointwise [k1_pay10]
  rfl

end Cert.KernelIdeal.Run

end
-- ==== Proof.Call0.lean ====
/- The first call's three results as whole arrays: what each holds after the last grid point, entry by entry, over the arrays
   the call reads. -/
module

public import proofs.«01_k».proof.Proof.Encode
public import proofs.«01_k».proof.Proof.Pay
public import Idealize.ShloMosaic.Lib.Pipeline.ValueKit

@[expose] public section

set_option maxRecDepth 16384

noncomputable section

namespace Cert.KernelIdeal.Run

open Idealize.ShloMosaic Idealize.ShloMosaic.TcCoe Idealize.SL.Sem
open Idealize.ShloMosaic.Pipeline (Dat)
open Cert.KernelIdeal Cert.KernelIdeal.Gen Cert.Maths

variable (V : (c : Dev nD) → (b : Ref sig .tc) → Buf (Elt Ideal) ((c : Thread nD τ).loc b))

/-- Every window's block index at every grid point. -/
theorem idx0 : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![0, 0] ∧ win0_7.index t = ![0, 0] ∧ win0_8.index t = ![0, 0] ∧ win0_9.index t = ![t.val, 0] ∧ win0_10.index t = ![t.val, 0] ∧ win0_11.index t = ![0, 0] ∧ win0_12.index t = ![0, 0] ∧ win0_13.index t = ![0, 0] ∧ win0_14.index t = ![0, 0] ∧ win0_15.index t = ![0, 0] ∧ win0_16.index t = ![0, 0] ∧ win0_17.index t = ![0, 0] ∧ win0_18.index t = ![0, 0] ∧ win0_19.index t = ![t.val, 0] ∧ win0_20.index t = ![t.val, 0] ∧ win0_21.index t = ![t.val, 0] :=
  (by decide +kernel : ∀ t : Fin grid0.N, _)

/-- The array row that row `i` of grid point `t`'s blocks lies on. -/
def line0 (t : Fin cfg0.N) (i : Fin 256) : Fin 4096 :=
  ⟨t.val * 256 + i.val, by have ht : t.val < 16 := lt_of_lt_of_eq t.isLt N_0; omega⟩

theorem block0_0 (c : Dev nD) (t : Fin cfg0.N) (i : Fin 256) :
    mat (n := 256) (k := 4096) (φ := .f32) (iblk0 (F := Ideal) V c 0 t) i = mat (n := 4096) (k := 4096) (φ := .f32) (V c main_arg2) (line0 t i) := by
  funext j
  unfold mat line0
  blk_ext [iblk0, idx0 t]
theorem block0_1 (c : Dev nD) (t : Fin cfg0.N) (i : Fin 256) :
    mat (n := 256) (k := 4096) (φ := .f32) (iblk0 (F := Ideal) V c 1 t) i = mat (n := 4096) (k := 4096) (φ := .f32) (V c main_arg3) (line0 t i) := by
  funext j
  unfold mat line0
  blk_ext [iblk0, idx0 t]
theorem block0_2 (c : Dev nD) (t : Fin cfg0.N) (i : Fin 256) :
    mat (n := 256) (k := 4096) (φ := .f32) (iblk0 (F := Ideal) V c 2 t) i = mat (n := 4096) (k := 4096) (φ := .f32) (V c main_arg4) (line0 t i) := by
  funext j
  unfold mat line0
  blk_ext [iblk0, idx0 t]
theorem block0_3 (c : Dev nD) (t : Fin cfg0.N) (i : Fin 256) :
    mat (n := 256) (k := 4096) (φ := .f32) (iblk0 (F := Ideal) V c 3 t) i = mat (n := 4096) (k := 4096) (φ := .f32) (V c main_arg5) (line0 t i) := by
  funext j
  unfold mat line0
  blk_ext [iblk0, idx0 t]
theorem block0_4 (c : Dev nD) (t : Fin cfg0.N) (i : Fin 256) :
    mat (n := 256) (k := 4096) (φ := .f32) (iblk0 (F := Ideal) V c 4 t) i = mat (n := 4096) (k := 4096) (φ := .f32) (V c main_arg6) (line0 t i) := by
  funext j
  unfold mat line0
  blk_ext [iblk0, idx0 t]
theorem block0_5 (c : Dev nD) (t : Fin cfg0.N) (i : Fin 256) :
    mat (n := 256) (k := 384) (φ := .f32) (iblk0 (F := Ideal) V c 5 t) i = mat (n := 4096) (k := 384) (φ := .f32) (V c main_arg7) (line0 t i) := by
  funext j
  unfold mat line0
  blk_ext [iblk0, idx0 t]
theorem block0_6 (c : Dev nD) (t : Fin cfg0.N) :
    mat (n := 4096) (k := 64) (φ := .f32) (iblk0 (F := Ideal) V c 6 t) = mat (n := 4096) (k := 64) (φ := .f32) (V c main_arg17) := by
  funext i j
  unfold mat
  blk_ext [iblk0, idx0 t]
theorem block0_7 (c : Dev nD) (t : Fin cfg0.N) :
    mat (n := 4096) (k := 64) (φ := .f32) (iblk0 (F := Ideal) V c 7 t) = mat (n := 4096) (k := 64) (φ := .f32) (V c main_arg16) := by
  funext i j
  unfold mat
  blk_ext [iblk0, idx0 t]
theorem block0_8 (c : Dev nD) (t : Fin cfg0.N) :
    mat (n := 256) (k := 64) (φ := .f32) (iblk0 (F := Ideal) V c 8 t) = mat (n := 256) (k := 64) (φ := .f32) (V c main_arg20) := by
  funext i j
  unfold mat
  blk_ext [iblk0, idx0 t]
theorem block0_9 (c : Dev nD) (t : Fin cfg0.N) (i : Fin 256) :
    mat (n := 256) (k := 64) (φ := .f32) (iblk0 (F := Ideal) V c 9 t) i = mat (n := 4096) (k := 64) (φ := .f32) (V c main_arg16) (line0 t i) := by
  funext j
  unfold mat line0
  blk_ext [iblk0, idx0 t]
theorem block0_10 (c : Dev nD) (t : Fin cfg0.N) (i : Fin 256) :
    mat (n := 256) (k := 64) (φ := .f32) (iblk0 (F := Ideal) V c 10 t) i = mat (n := 4096) (k := 64) (φ := .f32) (V c main_arg17) (line0 t i) := by
  funext j
  unfold mat line0
  blk_ext [iblk0, idx0 t]
theorem block0_11 (c : Dev nD) (t : Fin cfg0.N) :
    mat (n := 4096) (k := 64) (φ := .f32) (iblk0 (F := Ideal) V c 11 t) = mat (n := 4096) (k := 64) (φ := .f32) (V c main_arg8) := by
  funext i j
  unfold mat
  blk_ext [iblk0, idx0 t]
theorem block0_12 (c : Dev nD) (t : Fin cfg0.N) :
    mat (n := 1) (k := 64) (φ := .f32) (iblk0 (F := Ideal) V c 12 t) = mat (n := 1) (k := 64) (φ := .f32) (V c main_v0) := by
  funext i j
  unfold mat
  blk_ext [iblk0, idx0 t]
theorem block0_13 (c : Dev nD) (t : Fin cfg0.N) :
    mat (n := 64) (k := 64) (φ := .f32) (iblk0 (F := Ideal) V c 13 t) = mat (n := 64) (k := 64) (φ := .f32) (V c main_arg10) := by
  funext i j
  unfold mat
  blk_ext [iblk0, idx0 t]
theorem block0_14 (c : Dev nD) (t : Fin cfg0.N) :
    mat (n := 1) (k := 64) (φ := .f32) (iblk0 (F := Ideal) V c 14 t) = mat (n := 1) (k := 64) (φ := .f32) (V c main_v1) := by
  funext i j
  unfold mat
  blk_ext [iblk0, idx0 t]
theorem block0_15 (c : Dev nD) (t : Fin cfg0.N) :
    mat (n := 384) (k := 64) (φ := .f32) (iblk0 (F := Ideal) V c 15 t) = mat (n := 384) (k := 64) (φ := .f32) (V c main_arg12) := by
  funext i j
  unfold mat
  blk_ext [iblk0, idx0 t]
theorem block0_16 (c : Dev nD) (t : Fin cfg0.N) :
    mat (n := 1) (k := 64) (φ := .f32) (iblk0 (F := Ideal) V c 16 t) = mat (n := 1) (k := 64) (φ := .f32) (V c main_v2) := by
  funext i j
  unfold mat
  blk_ext [iblk0, idx0 t]
theorem block0_17 (c : Dev nD) (t : Fin cfg0.N) :
    mat (n := 64) (k := 64) (φ := .f32) (iblk0 (F := Ideal) V c 17 t) = mat (n := 64) (k := 64) (φ := .f32) (V c main_arg14) := by
  funext i j
  unfold mat
  blk_ext [iblk0, idx0 t]
theorem block0_18 (c : Dev nD) (t : Fin cfg0.N) :
    mat (n := 1) (k := 64) (φ := .f32) (iblk0 (F := Ideal) V c 18 t) = mat (n := 1) (k := 64) (φ := .f32) (V c main_v3) := by
  funext i j
  unfold mat
  blk_ext [iblk0, idx0 t]

/-- The users' starting table. -/
def arr19 (c : Dev nD) : FVec Ideal S4096x64 .f32 := fun y =>
  start (mat (n := 4096) (k := 64) (φ := .f32) (V c main_arg16) (y 0))
    (fuse (mat (n := 4096) (k := 4096) (φ := .f32) (V c main_arg2) (y 0)) (mat (n := 4096) (k := 4096) (φ := .f32) (V c main_arg3) (y 0))
      (mat (n := 4096) (k := 64) (φ := .f32) (V c main_arg17)) (mat (n := 256) (k := 64) (φ := .f32) (V c main_arg20))) (y 1)

/-- The items' starting table. -/
def arr20 (c : Dev nD) : FVec Ideal S4096x64 .f32 := fun y =>
  start (mat (n := 4096) (k := 64) (φ := .f32) (V c main_arg17) (y 0))
    (fuse (mat (n := 4096) (k := 4096) (φ := .f32) (V c main_arg4) (y 0)) (mat (n := 4096) (k := 4096) (φ := .f32) (V c main_arg5) (y 0))
      (mat (n := 4096) (k := 64) (φ := .f32) (V c main_arg16)) (mat (n := 256) (k := 64) (φ := .f32) (V c main_arg20))) (y 1)

/-- The first encoder's table, over the two bias rows the call reads. -/
def encA (c : Dev nD) : Mat 4096 64 := fun i =>
  enc (mat (n := 4096) (k := 4096) (φ := .f32) (V c main_arg6) i) (mat (n := 4096) (k := 64) (φ := .f32) (V c main_arg8))
    (mat (n := 1) (k := 64) (φ := .f32) (V c main_v0) 0) (mat (n := 64) (k := 64) (φ := .f32) (V c main_arg10))
    (mat (n := 1) (k := 64) (φ := .f32) (V c main_v1) 0)

/-- The second encoder's table, over the two bias rows the call reads. -/
def encB (c : Dev nD) : Mat 4096 64 := fun i =>
  enc (mat (n := 4096) (k := 384) (φ := .f32) (V c main_arg7) i) (mat (n := 384) (k := 64) (φ := .f32) (V c main_arg12))
    (mat (n := 1) (k := 64) (φ := .f32) (V c main_v2) 0) (mat (n := 64) (k := 64) (φ := .f32) (V c main_arg14))
    (mat (n := 1) (k := 64) (φ := .f32) (V c main_v3) 0)

/-- The two encoders' tables side by side. -/
def arr21 (c : Dev nD) : FVec Ideal S4096x128 .bf16 := fun y =>
  if h : (y 1).val < 64 then encA V c (y 0) ⟨(y 1).val, h⟩
  else encB V c (y 0) ⟨(y 1).val - 64, by have h1 : (y 1).val < 128 := (y 1).isLt; omega⟩

/-- The rows a grid point leaves of the users' starting table. -/
theorem point19 (c : Dev nD) (t : Fin cfg0.N) (i : Fin 256) (j : Fin 64) :
    out0_19 (F := Ideal) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (ix2 i j)
      = arr19 V c (ix2 (line0 t i) j) := by
  unfold out0_19
  frame_out
  refine (pay_users _ _ _ _ _ i j).trans ?_
  rw [block0_9, block0_0, block0_1, block0_6, block0_8]
  rfl

/-- The rows a grid point leaves of the items' starting table. -/
theorem point20 (c : Dev nD) (t : Fin cfg0.N) (i : Fin 256) (j : Fin 64) :
    out0_20 (F := Ideal) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (ix2 i j)
      = arr20 V c (ix2 (line0 t i) j) := by
  unfold out0_20
  frame_out
  refine (pay_items _ _ _ _ _ i j).trans ?_
  rw [block0_10, block0_2, block0_3, block0_7, block0_8]
  rfl

/-- The rows a grid point leaves of the first encoder's table, -/
theorem core21a (c : Dev nD) (t : Fin cfg0.N) (i : Fin 256) (j : Fin 64) :
    k0_pay9 (F := Ideal) (k0_pay8 (iblk0 V c 4 t) (iblk0 V c 11 t) (iblk0 V c 12 t)) (iblk0 V c 13 t) (iblk0 V c 14 t) (ix2 i j)
      = encA V c (line0 t i) j := by
  refine (pay_enc0 _ _ _ _ _ i j).trans ?_
  rw [block0_4, block0_11, block0_12, block0_13, block0_14]
  rfl

/-- and of the second encoder's. -/
theorem core21b (c : Dev nD) (t : Fin cfg0.N) (i : Fin 256) (j : Fin 64) :
    k0_pay1 (F := Ideal) (k0_pay10 (iblk0 V c 5 t) (iblk0 V c 15 t) (iblk0 V c 16 t) (iblk0 V c 17 t) (iblk0 V c 18 t))
        (Scalar.ofBits .f32 0x00000000#32) (ix2 i j)
      = encB V c (line0 t i) j := by
  refine (pay_enc1 _ _ _ _ _ i j).trans ?_
  rw [block0_5, block0_15, block0_16, block0_17, block0_18]
  rfl

theorem arr21_at (c : Dev nD) (i : Fin 4096) (j : Fin 128) :
    arr21 V c (ix2 i j) = if h : j.val < 64 then encA V c i ⟨j.val, h⟩ else encB V c i ⟨j.val - 64, by omega⟩ := rfl

/-- The rows a grid point leaves of the two encoders' tables side by side. -/
theorem point21 (c : Dev nD) (t : Fin cfg0.N) (i : Fin 256) (j : Fin 128) :
    out0_21 (F := Ideal) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (ix2 i j)
      = arr21 V c (ix2 (line0 t i) j) := by
  unfold out0_21
  frame_out
  rw [arr21_at]
  by_cases h : j.val < 64
  · refine Eq.trans (b := encA V c (line0 t i) ⟨j.val, h⟩) ?_ (by rw [dif_pos h])
    refine Eq.trans ?_ (core21a V c t i ⟨j.val, h⟩)
    canon_tiles x hx
    · exfalso
      have hj : j.val = 64 + (x 1).val := hx1
      omega
    · refine congrArg _ ((eq_ix2 x).trans ?_)
      exact congrArg₂ ix2 (Fin.ext hx0.symm) (Fin.ext hx1.symm)
  · refine Eq.trans (b := encB V c (line0 t i) ⟨j.val - 64, by omega⟩) ?_ (by rw [dif_neg h])
    refine Eq.trans ?_ (core21b V c t i ⟨j.val - 64, by omega⟩)
    canon_tiles x hx
    · refine congrArg _ ((eq_ix2 x).trans ?_)
      have hj : j.val = 64 + (x 1).val := hx1
      exact congrArg₂ ix2 (Fin.ext hx0.symm) (Fin.ext (by show (x 1).val = j.val - 64; omega))
    · exfalso
      have hj : j.val = (x 1).val := hx1
      have := x1_lt
      omega

/-- The users' starting table after the call. -/
theorem users (c : Dev nD) : (dat0 V c).arrAt 19 cfg0.N = arr19 V c := by
  refine (dat0 V c).arrAt_eq_of_covers 19 _ (by decide +kernel) fun t hf y => ?_
  blk_simp
  rw [after0_19]
  refine (congrArg _ (eq_ix2 y)).trans ((point19 V c t (y 0) (y 1)).trans (congrArg (arr19 V c) ?_))
  unfold line0
  blk_ext [idx0 t]

/-- The items' starting table after the call. -/
theorem items (c : Dev nD) : (dat0 V c).arrAt 20 cfg0.N = arr20 V c := by
  refine (dat0 V c).arrAt_eq_of_covers 20 _ (by decide +kernel) fun t hf y => ?_
  blk_simp
  rw [after0_20]
  refine (congrArg _ (eq_ix2 y)).trans ((point20 V c t (y 0) (y 1)).trans (congrArg (arr20 V c) ?_))
  unfold line0
  blk_ext [idx0 t]

/-- The two encoders' tables after the call. -/
theorem encoders (c : Dev nD) : (dat0 V c).arrAt 21 cfg0.N = arr21 V c := by
  refine (dat0 V c).arrAt_eq_of_covers 21 _ (by decide +kernel) fun t hf y => ?_
  blk_simp
  rw [after0_21]
  refine (congrArg _ (eq_ix2 y)).trans ((point21 V c t (y 0) (y 1)).trans (congrArg (arr21 V c) ?_))
  unfold line0
  blk_ext [idx0 t]

end Cert.KernelIdeal.Run

end
-- ==== Proof.Call1.lean ====
/- The second call's two results as whole arrays: its five tables in closed form, and each result entry by entry, over the arrays
   the call reads. -/
module

public import proofs.«01_k».proof.Proof.Steps
public import proofs.«01_k».proof.Proof.Pay
public import Idealize.ShloMosaic.Lib.Pipeline.ValueKit

@[expose] public section

set_option maxRecDepth 16384

noncomputable section

namespace Cert.KernelIdeal.Run

open Idealize.ShloMosaic Idealize.ShloMosaic.TcCoe Idealize.SL.Sem
open Idealize.ShloMosaic.Pipeline (Dat)
open Idealize.ShloMosaic.VecWindow (window put)
open Cert.KernelIdeal Cert.KernelIdeal.Gen Cert.Maths

/-- The two spellings of a pair of coordinates are one. -/
theorem pair_eq {n k : ℕ} (a : Fin n) (b : Fin k) : ValueIdx.ix2 a b = ix2 a b := by
  funext d
  match d with
  | ⟨0, _⟩ => rfl
  | ⟨1, _⟩ => rfl

/-! ## The tables over any blocks -/

section Tables
variable (b0 b1 : Fin grid1.N → FVec Ideal S512x4096 .f32) (b2 b3 : Fin grid1.N → FVec Ideal S4096x64 .f32) (b4 : Fin grid1.N → FVec Ideal S4096x128 .bf16)
  (ui iu : Mat 4096 4096) (u g : Mat 4096 64) (f : Mat 4096 128)

/-- Row `i` of block `n` of 512 rows. -/
def line (n : ℕ) (i : Fin 512) (h : n < 8) : Fin 4096 := ⟨512 * n + i.val, by omega⟩

theorem line_self (i : Fin 4096) : line (i.val / 512) ⟨i.val % 512, Nat.mod_lt _ (by decide)⟩ (by omega) = i :=
  Fin.ext (by show 512 * (i.val / 512) + i.val % 512 = i.val; omega)

/-- The blocks hold the matrices' rows where the phases read them. -/
structure Holds : Prop where
  h0 : ∀ n (h : n < 8) i, mat (b0 (pt n)) i = ui (line n i h)
  h0' : ∀ n (h : n < 8) i, mat (b0 (pt (16 + n))) i = ui (line n i h)
  h1 : ∀ n (h : n < 8) i, mat (b1 (pt (8 + n))) i = iu (line n i h)
  h1' : ∀ n (h : n < 8) i, mat (b1 (pt (24 + n))) i = iu (line n i h)
  h2 : ∀ t, mat (b2 t) = u
  h3 : ∀ t, mat (b3 t) = g
  h4 : ∀ t, mat (b4 t) = f

variable {b0 b1 b2 b3 b4 ui iu u g f} (H : Holds b0 b1 b2 b3 b4 ui iu u g f)
include H

theorem table0 : mat (φ := .bf16) (R0 (F := Ideal) b3 b4) = beside f g := by
  funext i j
  unfold mat R0 beside
  by_cases h : j.val < 128
  · refine (dif_pos (c := (ix2 i j 1).val < 128) h).trans (Eq.trans ?_ (dif_pos h).symm)
    refine (congrArg (k1_pay1 (F := Ideal) _) (pair_eq _ _)).trans ((pay_copy _ _ _).trans ?_)
    rw [H.h4]
    rfl
  · refine (dif_neg (c := (ix2 i j 1).val < 128) h).trans (Eq.trans ?_ (dif_neg h).symm)
    refine (congrArg (k1_pay2 (F := Ideal) _) (pair_eq _ _)).trans ((pay_round _ _ _).trans ?_)
    rw [H.h3]
    rfl

theorem table1 : mat (φ := .bf16) (R1 (F := Ideal) b0 b3 b4) = tab1 ui f g := by
  funext i j
  unfold mat R1
  refine (congrArg (k1_pay3 (F := Ideal) _ _) (pair_eq _ _)).trans ((pay_first _ _ _ _).trans ?_)
  rw [table0 H]
  refine congrFun (congrArg (rowMul · (beside f g)) ?_) j
  refine (H.h0 (i.val / 512) (by omega) _).trans ?_
  exact congrArg ui (line_self i)

theorem row1 (i : Fin 4096) : rowMul (mat (b1 (pt (8 + i.val / 512))) ⟨i.val % 512, Nat.mod_lt _ (by decide)⟩) (mat (φ := .bf16) (R1 (F := Ideal) b0 b3 b4)) = tabI ui iu f g i := by
  rw [table1 H, H.h1 (i.val / 512) (by omega), line_self]
  rfl

theorem table2 : mat (φ := .bf16) (R2 (F := Ideal) b0 b1 b3 b4) = softened (tabI ui iu f g) := by
  funext i j
  unfold mat R2 softened
  by_cases h : j.val < 128
  · refine (dif_pos (c := (ix2 i j 1).val < 128) h).trans (Eq.trans ?_ (if_pos h).symm)
    refine (congrArg (k1_pay5 (F := Ideal) _ _) (pair_eq _ _)).trans ?_
    exact (pay_second _ _ _ _).trans (congrFun (row1 H i) _)
  · refine (dif_neg (c := (ix2 i j 1).val < 128) h).trans (Eq.trans ?_ (if_neg h).symm)
    refine (congrArg (k1_pay8 (F := Ideal) _ _) (pair_eq _ _)).trans ?_
    exact (pay_soft _ _ _ _).trans (congrFun (congrArg (fun r => soft (right r)) (row1 H i)) _)

theorem tableI (i : Fin 4096) : mat (φ := .bf16) (I1 (F := Ideal) b0 b1 b3 b4) i = right (tabI ui iu f g i) := by
  funext j
  unfold mat I1
  refine (congrArg (k1_pay7 (F := Ideal) _ _) (pair_eq _ _)).trans ?_
  exact (pay_third _ _ _ _).trans (congrFun (congrArg right (row1 H i)) _)

theorem table3 : mat (φ := .bf16) (R3 (F := Ideal) b0 b1 b3 b4) = tab3 ui iu f g := by
  funext i j
  unfold mat R3
  refine (congrArg (k1_pay12 (F := Ideal) _ _) (pair_eq _ _)).trans ((pay_fourth _ _ _ _).trans ?_)
  rw [table2 H]
  refine congrFun (congrArg (rowMul · (softened (tabI ui iu f g))) ?_) j
  refine (H.h0' (i.val / 512) (by omega) _).trans ?_
  exact congrArg ui (line_self i)

omit H in
/-- A rectangle of 512 rows and 64 columns, read as rows. -/
theorem window_row {φ : FTy} {m : ℕ} (x : FVec Ideal ⟨2, ![4096, m]⟩ φ) (n o : ℕ) (h : n < 8) (ho : o + 64 ≤ m)
    (inb : ∀ a : Fin 2, (![512 * n, o] : Fin 2 → ℕ) a + S512x64.size a ≤ (⟨2, ![4096, m]⟩ : Shape).size a) (i : Fin 512) :
    mat (n := 512) (k := 64) (φ := φ) (window (s := ⟨2, ![4096, m]⟩) x ![512 * n, o] S512x64.size inb) i
      = fun q : Fin 64 => mat x (line n i h) ⟨o + q.val, by omega⟩ := by
  funext q
  unfold mat window
  refine congrArg x ?_
  funext d
  match d with
  | ⟨0, _⟩ => exact Fin.ext (ValueKit.rect_emb_unit_val _ _ _ _ _)
  | ⟨1, _⟩ => exact Fin.ext (ValueKit.rect_emb_unit_val _ _ _ _ _)

theorem result5 (n : ℕ) (h : n < 8) (i : Fin 512) (j : Fin 64) :
    out5 (F := Ideal) b0 b1 b2 b3 b4 n h (ix2 i j) = resU ui iu u f g (line n i h) j := by
  unfold out5
  refine (pay_ufin _ _ _ _ i j).trans ?_
  rw [table2 H, H.h0' n h, window_row _ n 128 h (by decide), window_row _ n 0 h (by decide), table1 H, H.h2]
  unfold resU
  simp only [Nat.zero_add]
  rfl

theorem result6 (n : ℕ) (h : n < 8) (i : Fin 512) (j : Fin 64) :
    out6 (F := Ideal) b0 b1 b3 b4 n h (ix2 i j) = resI ui iu f g (line n i h) j := by
  unfold out6
  refine (pay_ifin _ _ _ _ i j).trans ?_
  rw [table3 H, H.h1' n h, window_row _ n 0 h (by decide), window_row _ n 0 h (by decide), tableI H, H.h3]
  unfold resI
  simp only [Nat.zero_add]
  rfl

end Tables

/-! ## The call's own blocks -/

variable (V : (c : Dev nD) → (b : Ref sig .tc) → Buf (Elt Ideal) ((c : Thread nD τ).loc b))

/-- The input windows' block indices at the points whose phase reads them. -/
theorem idx1 : ∀ n : Fin 8, win1_0.index (pt n.val) = ![n.val, 0] ∧ win1_0.index (pt (16 + n.val)) = ![n.val, 0]
    ∧ win1_1.index (pt (8 + n.val)) = ![n.val, 0] ∧ win1_1.index (pt (24 + n.val)) = ![n.val, 0] := by decide +kernel
/-- The whole-array windows' block indices. -/
theorem idx1' : ∀ t : Fin cfg1.N, win1_2.index t = ![0, 0] ∧ win1_3.index t = ![0, 0] ∧ win1_4.index t = ![0, 0] :=
  (by decide +kernel : ∀ t : Fin grid1.N, _)
/-- The result windows' block indices where they are written back. -/
theorem idx1_5 : ∀ t : Fin cfg1.N, (cfg1.win 5).flush t = true → win1_5.index t = ![min (t.val - 16) 7, 0] :=
  (by decide +kernel : ∀ t : Fin grid1.N, _)
theorem idx1_6 : ∀ t : Fin cfg1.N, (cfg1.win 6).flush t = true → win1_6.index t = ![min (t.val - 24) 7, 0] :=
  (by decide +kernel : ∀ t : Fin grid1.N, _)

/-- The arrays the call reads, as matrices. -/
abbrev gU (c : Dev nD) : Mat 4096 4096 := mat (n := 4096) (k := 4096) (φ := .f32) (V c main_arg0)
abbrev gI (c : Dev nD) : Mat 4096 4096 := mat (n := 4096) (k := 4096) (φ := .f32) (V c main_arg1)
abbrev tU (c : Dev nD) : Mat 4096 64 := mat (n := 4096) (k := 64) (φ := .f32) (V c main_v4_0)
abbrev tI (c : Dev nD) : Mat 4096 64 := mat (n := 4096) (k := 64) (φ := .f32) (V c main_v4_1)
abbrev tE (c : Dev nD) : Mat 4096 128 := mat (n := 4096) (k := 128) (φ := .bf16) (V c main_v4_2)

theorem holds (c : Dev nD) : Holds (blk0 V c) (blk1 V c) (blk2 V c) (blk3 V c) (blk4 V c) (gU V c) (gI V c) (tU V c) (tI V c) (tE V c) where
  h0 n h i := by
    funext j
    have e := (idx1 ⟨n, h⟩).1
    unfold mat line
    blk_ext [iblk1, e]
  h0' n h i := by
    funext j
    have e := (idx1 ⟨n, h⟩).2.1
    unfold mat line
    blk_ext [iblk1, e]
  h1 n h i := by
    funext j
    have e := (idx1 ⟨n, h⟩).2.2.1
    unfold mat line
    blk_ext [iblk1, e]
  h1' n h i := by
    funext j
    have e := (idx1 ⟨n, h⟩).2.2.2
    unfold mat line
    blk_ext [iblk1, e]
  h2 t := by
    funext i j
    unfold mat
    blk_ext [iblk1, idx1' t]
  h3 t := by
    funext i j
    unfold mat
    blk_ext [iblk1, idx1' t]
  h4 t := by
    funext i j
    unfold mat
    blk_ext [iblk1, idx1' t]

/-- The users' result array. -/
def arr5 (c : Dev nD) : FVec Ideal S4096x64 .f32 := fun y => resU (gU V c) (gI V c) (tU V c) (tE V c) (tI V c) (y 0) (y 1)
/-- The items' result array. -/
def arr6 (c : Dev nD) : FVec Ideal S4096x64 .f32 := fun y => resI (gU V c) (gI V c) (tE V c) (tI V c) (y 0) (y 1)

/-- The users' result after the call. -/
theorem users_result (c : Dev nD) : (dat1 V c).arrAt 5 cfg1.N = arr5 V c := by
  refine (dat1 V c).arrAt_eq_of_covers 5 _ (by decide +kernel) fun t hf y => ?_
  have e := idx1_5 t hf
  blk_simp
  rw [after1_5]
  unfold res5
  refine (congrArg _ (eq_ix2 y)).trans ((result5 (holds V c) _ _ (y 0) (y 1)).trans ?_)
  refine congrArg (arr5 V c) (a₁ := ix2 (line (min (t.val - 16) 7) (y 0) (by omega)) (y 1)) ?_
  unfold line
  blk_ext [e]

/-- The items' result after the call. -/
theorem items_result (c : Dev nD) : (dat1 V c).arrAt 6 cfg1.N = arr6 V c := by
  refine (dat1 V c).arrAt_eq_of_covers 6 _ (by decide +kernel) fun t hf y => ?_
  have e := idx1_6 t hf
  blk_simp
  rw [after1_6]
  unfold res6
  refine (congrArg _ (eq_ix2 y)).trans ((result6 (holds V c) _ _ (y 0) (y 1)).trans ?_)
  refine congrArg (arr6 V c) (a₁ := ix2 (line (min (t.val - 24) 7) (y 0) (by omega)) (y 1)) ?_
  unfold line
  blk_ext [e]

end Cert.KernelIdeal.Run

end
-- ==== Proof.Attn.lean ====
/- The attention both programs compute, as the reference states it — two stacked rows, four heads, a softmax over the stack, the
   heads side by side through the output weights, the mean over the stack — and why on real arguments it is the short form
   `fuse`: the weights of every head sum to one and multiply one and the same row. -/
module

public import proofs.«01_k».proof.Proof.Maths

@[expose] public section

noncomputable section

namespace Cert.Maths

open Idealize.ShloMosaic

/-! ## The constants as real numbers -/

def two : EReal := Ideal.ofBits .f32 0x40000000#32
def sixteen : EReal := Ideal.ofBits .f32 0x41800000#32

theorem two_eq : two = ((2 : ℝ) : EReal) := by
  unfold two; simp [Ideal.ofBits, Ideal.ieee, -EReal.coe_mul]; norm_num
theorem half_eq : half = ((1 / 2 : ℝ) : EReal) := by
  unfold half; simp [Ideal.ofBits, Ideal.ieee, -EReal.coe_mul]; norm_num
theorem sixteen_eq : sixteen = ((16 : ℝ) : EReal) := by
  unfold sixteen; simp [Ideal.ofBits, Ideal.ieee, -EReal.coe_mul]; norm_num
theorem bottom_eq : bottom = ⊥ := by
  unfold bottom; simp [Ideal.ofBits, Ideal.ieee]
theorem catRate_real : ∃ r : ℝ, 0 ≤ r ∧ catRate = (r : EReal) := by
  refine ⟨(0x23D70A + 0x800000) * 2 ^ (-29 : ℤ), by positivity, ?_⟩
  unfold catRate; simp [Ideal.ofBits, Ideal.ieee, -EReal.coe_mul]; norm_num

theorem root_eq : Ideal.sqrt sixteen = ((4 : ℝ) : EReal) := by
  rw [sixteen_eq, Ideal.sqrt_coe, if_neg (by norm_num), show (16 : ℝ) = 4 * 4 by norm_num, Real.sqrt_mul_self (by norm_num)]

/-! ## Real matrices -/

/-- A matrix of real numbers. -/
def Real2 {n k : ℕ} (x : Mat n k) : Prop := ∃ r : Fin n → Fin k → ℝ, x = fun i j => (r i j : EReal)

/-- A row of real numbers. -/
def Real1 {n : ℕ} (x : Fin n → EReal) : Prop := ∃ r : Fin n → ℝ, x = fun i => (r i : EReal)

theorem real2_of_abs {n k : ℕ} {x : Mat n k} (h : ∀ i j, x i j ≠ ⊤ ∧ x i j ≠ ⊥) : Real2 x :=
  ⟨fun i j => (x i j).toReal, funext fun i => funext fun j => (EReal.coe_toReal (h i j).1 (h i j).2).symm⟩

theorem Real2.row {n k : ℕ} {x : Mat n k} (h : Real2 x) (i : Fin n) : Real1 (x i) := by
  obtain ⟨r, rfl⟩ := h; exact ⟨r i, rfl⟩

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A real row times a real matrix. -/
theorem rowMul_coe {n k : ℕ} (x : Fin n → ℝ) (B : Fin n → Fin k → ℝ) :
    rowMul (fun p => (x p : EReal)) (fun p j => (B p j : EReal)) = fun j => ((∑ p, x p * B p j : ℝ) : EReal) := by
  funext j
  unfold rowMul
  rw [coe_sum]
  exact Finset.sum_congr rfl fun p _ => (EReal.coe_mul _ _).symm

/-! ## The attention -/

/-- The stack of two rows, each a graph's row times the embeddings. -/
def stack (a b : Fin 4096 → EReal) (e : Mat 4096 64) (c : Fin 2) : Fin 64 → EReal := fun j => if c.val < 1 then rowMul a e j else rowMul b e j

/-- The stack's rows through the query weights. -/
def query (X : Fin 2 → Fin 64 → EReal) (wq : Mat 64 64) (b : Fin 2) : Fin 64 → EReal := rowMul (X b) wq

/-- Head `h`'s score of the stack's row `c` for its row `b`: the products of 16 query entries, each divided by the root, summed. -/
def score (X : Fin 2 → Fin 64 → EReal) (wq : Mat 64 64) (h : Fin 4) (b c : Fin 2) : EReal :=
  ∑ d : Fin 16, Ideal.div (query X wq b ⟨h.val * 16 + d.val, by omega⟩ * query X wq c ⟨h.val * 16 + d.val, by omega⟩) (Ideal.sqrt sixteen)

/-- The softmax's numerators. -/
def weigh (X : Fin 2 → Fin 64 → EReal) (wq : Mat 64 64) (h : Fin 4) (b c : Fin 2) : EReal :=
  Ideal.exp (score X wq h b c - max bottom (Finset.univ.fold max bottom fun d => score X wq h b d))

/-- Head `h`'s row `b`: the weights, each times the stack's row `b`, summed. -/
def head (X : Fin 2 → Fin 64 → EReal) (wq : Mat 64 64) (h : Fin 4) (b : Fin 2) (j : Fin 64) : EReal :=
  ∑ c : Fin 2, Ideal.div (weigh X wq h b c) (∑ d : Fin 2, weigh X wq h b d) * X b j

/-- The four heads side by side. -/
def heads (X : Fin 2 → Fin 64 → EReal) (wq : Mat 64 64) (b : Fin 2) (x : Fin 256) : EReal :=
  if h : x.val < 64 then head X wq 0 b ⟨x.val, h⟩
  else if h : x.val - 64 < 64 then head X wq 1 b ⟨x.val - 64, h⟩
  else if h : x.val - 64 - 64 < 64 then head X wq 2 b ⟨x.val - 64 - 64, h⟩
  else head X wq 3 b ⟨x.val - 64 - 64 - 64, by omega⟩

/-- The attention's row: the heads through the output weights, the mean over the stack. -/
def attn (X : Fin 2 → Fin 64 → EReal) (wq : Mat 64 64) (wc : Mat 256 64) (j : Fin 64) : EReal :=
  Ideal.div (∑ b : Fin 2, ∑ x : Fin 256, heads X wq b x * wc x j) two

/-- The scores of real rows are real. -/
theorem score_real (x : Fin 2 → Fin 64 → ℝ) (q : Fin 64 → Fin 64 → ℝ) (h : Fin 4) (b : Fin 2) :
    ∃ l : Fin 2 → ℝ, ∀ c, score (fun b j => (x b j : EReal)) (fun i j => (q i j : EReal)) h b c = (l c : EReal) := by
  refine ⟨fun c => ∑ d : Fin 16, (∑ p, x b p * q p ⟨h.val * 16 + d.val, by omega⟩) * (∑ p, x c p * q p ⟨h.val * 16 + d.val, by omega⟩) * (1 / 4),
    fun c => ?_⟩
  unfold score query
  rw [coe_sum]
  refine Finset.sum_congr rfl fun d _ => ?_
  rw [root_eq, Ideal.div_coe (by norm_num), rowMul_coe, rowMul_coe, EReal.coe_mul, EReal.coe_mul]

/-- On real rows every head is the row itself: its weights sum to one. -/
theorem head_eq (x : Fin 2 → Fin 64 → ℝ) (q : Fin 64 → Fin 64 → ℝ) (h : Fin 4) (b : Fin 2) (j : Fin 64) :
    head (fun b j => (x b j : EReal)) (fun i j => (q i j : EReal)) h b j = (x b j : EReal) := by
  obtain ⟨l, hl⟩ := score_real x q h b
  have hw : ∀ c, weigh (fun b j => (x b j : EReal)) (fun i j => (q i j : EReal)) h b c = ((Real.exp (l c - max (l 0) (l 1)) : ℝ) : EReal) := by
    intro c
    unfold weigh
    have hm : (Finset.univ.fold max bottom fun d => score (fun b j => (x b j : EReal)) (fun i j => (q i j : EReal)) h b d)
        = ((max (l 0) (l 1) : ℝ) : EReal) := by
      rw [show (Finset.univ : Finset (Fin 2)) = {0, 1} from rfl, Finset.fold_insert (by decide), Finset.fold_singleton, hl, hl, bottom_eq,
        max_bot_right]
      exact (EReal.coe_strictMono.monotone.map_max).symm
    rw [hm, bottom_eq, max_bot_left, hl, ← EReal.coe_sub, Ideal.exp_coe]
  unfold head
  simp only [hw]
  set w : Fin 2 → ℝ := fun c => Real.exp (l c - max (l 0) (l 1)) with hwdef
  have hs : (0 : ℝ) < ∑ d, w d := Finset.sum_pos (fun d _ => Real.exp_pos _) ⟨0, Finset.mem_univ _⟩
  show (∑ c, Ideal.div ((w c : ℝ) : EReal) (∑ d, ((w d : ℝ) : EReal)) * (x b j : EReal)) = _
  rw [← coe_sum]
  have : ∀ c, Ideal.div ((w c : ℝ) : EReal) ((∑ d, w d : ℝ) : EReal) * (x b j : EReal) = ((w c * (1 / ∑ d, w d) * x b j : ℝ) : EReal) := by
    intro c
    rw [Ideal.div_coe hs.ne', EReal.coe_mul, EReal.coe_mul]
  simp only [this]
  rw [← coe_sum, ← Finset.sum_mul, ← Finset.sum_mul, mul_one_div_cancel hs.ne', one_mul]

/-- A sum over 256 entries, in four parts of 64. -/
theorem sum_parts {M : Type*} [AddCommMonoid M] (f : Fin 256 → M) :
    ∑ x, f x = ∑ p : Fin 64, (f ⟨p, by omega⟩ + f ⟨64 + p, by omega⟩ + f ⟨128 + p, by omega⟩ + f ⟨192 + p, by omega⟩) := by
  have e : ∑ x, f x = ∑ x : Fin (64 + (64 + (64 + 64))), f x := rfl
  rw [e, Fin.sum_univ_add, Fin.sum_univ_add, Fin.sum_univ_add, Finset.sum_add_distrib, Finset.sum_add_distrib, Finset.sum_add_distrib, add_assoc, add_assoc]
  refine congrArg₂ _ rfl (congrArg₂ _ rfl (congrArg₂ _ ?_ ?_))
  · refine Finset.sum_congr rfl fun p _ => congrArg f (Fin.ext ?_)
    show 64 + (64 + p.val) = 128 + p.val; omega
  · refine Finset.sum_congr rfl fun p _ => congrArg f (Fin.ext ?_)
    show 64 + (64 + (64 + p.val)) = 192 + p.val; omega

/-- On real arguments the attention's row is its short form. -/
theorem attn_eq {a b : Fin 4096 → EReal} {e : Mat 4096 64} {wq : Mat 64 64} {wc : Mat 256 64} (ha : Real1 a) (hb : Real1 b) (he : Real2 e)
    (hq : Real2 wq) (hc : Real2 wc) : attn (stack a b e) wq wc = fuse a b e wc := by
  have hX0 : stack a b e 0 = rowMul a e := rfl
  have hX1 : stack a b e 1 = rowMul b e := rfl
  generalize stack a b e = X at hX0 hX1 ⊢
  obtain ⟨a, rfl⟩ := ha
  obtain ⟨b, rfl⟩ := hb
  obtain ⟨e, rfl⟩ := he
  obtain ⟨q, rfl⟩ := hq
  obtain ⟨w, rfl⟩ := hc
  rw [rowMul_coe] at hX0 hX1
  set x : Fin 2 → Fin 64 → ℝ := fun c j => if c = 0 then ∑ p, a p * e p j else ∑ p, b p * e p j with hx
  have hXx : X = fun c j => (x c j : EReal) := by
    funext c j
    match c with
    | 0 => rw [hX0]; rfl
    | 1 => rw [hX1]; rfl
  subst hXx
  funext j
  set B : Fin 64 → ℝ := fun p => w ⟨p, by omega⟩ j + w ⟨64 + p, by omega⟩ j + w ⟨128 + p, by omega⟩ j + w ⟨192 + p, by omega⟩ j with hB
  have hh : ∀ c, (∑ y : Fin 256, heads (fun c j => (x c j : EReal)) (fun i j => (q i j : EReal)) c y * ((w y j : ℝ) : EReal))
      = ((∑ p, x c p * B p : ℝ) : EReal) := by
    intro c
    rw [sum_parts, coe_sum]
    refine Finset.sum_congr rfl fun p _ => ?_
    have hp := p.isLt
    unfold heads
    simp only [head_eq]
    rw [dif_pos (show (p : ℕ) < 64 by omega), dif_neg (show ¬ (64 + p : ℕ) < 64 by omega), dif_pos (show (64 + p - 64 : ℕ) < 64 by omega),
      dif_neg (show ¬ (128 + p : ℕ) < 64 by omega), dif_neg (show ¬ (128 + p - 64 : ℕ) < 64 by omega), dif_pos (show (128 + p - 64 - 64 : ℕ) < 64 by omega),
      dif_neg (show ¬ (192 + p : ℕ) < 64 by omega), dif_neg (show ¬ (192 + p - 64 : ℕ) < 64 by omega), dif_neg (show ¬ (192 + p - 64 - 64 : ℕ) < 64 by omega)]
    have h1 : (⟨64 + p - 64, by omega⟩ : Fin 64) = p := Fin.ext (by show 64 + p.val - 64 = p.val; omega)
    have h2 : (⟨128 + p - 64 - 64, by omega⟩ : Fin 64) = p := Fin.ext (by show 128 + p.val - 64 - 64 = p.val; omega)
    have h3 : (⟨192 + p - 64 - 64 - 64, by omega⟩ : Fin 64) = p := Fin.ext (by show 192 + p.val - 64 - 64 - 64 = p.val; omega)
    rw [h1, h2, h3, ← EReal.coe_mul, ← EReal.coe_mul, ← EReal.coe_mul, ← EReal.coe_mul, ← EReal.coe_add, ← EReal.coe_add, ← EReal.coe_add]
    refine congrArg _ ?_
    show x c p * w _ j + x c p * w _ j + x c p * w _ j + x c p * w _ j = x c p * B p
    rw [hB]; ring
  have hg : gate (fun i j => (e i j : EReal)) (fun i j => (w i j : EReal)) = fun p j' => (((∑ k, e p k *
      (w ⟨k, by omega⟩ j' + w ⟨64 + k, by omega⟩ j' + w ⟨128 + k, by omega⟩ j' + w ⟨192 + k, by omega⟩ j')) * (1 / 2) : ℝ) : EReal) := by
    funext p j'
    unfold gate blocks rowMul
    rw [half_eq, EReal.coe_mul, coe_sum]
    refine congrArg (· * _) (Finset.sum_congr rfl fun k _ => ?_)
    rw [EReal.coe_mul, EReal.coe_add, EReal.coe_add, EReal.coe_add]
  unfold attn fuse
  simp only [hh]
  rw [hg, two_eq, Ideal.div_coe (by norm_num), ← coe_sum, ← EReal.coe_mul]
  have hab : (fun p => (a p : EReal) + (b p : EReal)) = fun p => ((a p + b p : ℝ) : EReal) := by funext p; rw [EReal.coe_add]
  rw [hab, rowMul_coe]
  refine congrArg _ ?_
  have swap : ∀ g : Fin 4096 → ℝ, ∑ p, (∑ r, g r * e r p) * B p = ∑ r, g r * ∑ p, e r p * B p := by
    intro g
    simp only [Finset.sum_mul, Finset.mul_sum]
    rw [Finset.sum_comm]
    exact Finset.sum_congr rfl fun r _ => Finset.sum_congr rfl fun p _ => mul_assoc _ _ _
  rw [Fin.sum_univ_two]
  show ((∑ p, (∑ r, a r * e r p) * B p) + ∑ p, (∑ r, b r * e r p) * B p) * (1 / 2) = ∑ r, (a r + b r) * ((∑ k, e r k * B k) * (1 / 2))
  rw [swap, swap, ← Finset.sum_add_distrib, Finset.sum_mul]
  exact Finset.sum_congr rfl fun r _ => by ring

end Cert.Maths

end
-- ==== Proof.Ref.lean ====
/- The reference, operation by operation: every table it computes, over its argument arrays. -/
module

public import proofs.«01_k».proof.Proof.Gen.ReferenceIdeal.Run
public import proofs.«01_k».proof.Proof.Attn
public import Idealize.ShloMosaic.Lib.Pointwise

@[expose] public section

set_option maxRecDepth 16384

noncomputable section

namespace Cert.ReferenceIdeal.Value

open Idealize.ShloMosaic Idealize.ShloMosaic.TcCoe Idealize.SL.Sem
open Cert.ReferenceIdeal Cert.ReferenceIdeal.Gen Cert.Maths

variable (V : Valuation τ sig (Elt Ideal))

/-- A row's maximum, over the row's entries. -/
theorem fold_row (b : EReal) (v : S4096x64.Idx → EReal) (h : S4096x64.ReducesTo [1] S4096) (i : Fin 4096) :
    Finset.fold max b v (Finset.univ.filter fun y => h.drop y = ix1 i) = Finset.univ.fold max b fun k : Fin 64 => v (ix2 i k) :=
  Shape.ReducesTo.fold_fiber_r2_a1 h (ix1 i) max b v

/-- A maximum over the stack, over its two entries. -/
theorem fold_stack (e : EReal) (v : S4x2x2x4096x1.Idx → EReal) (R : S4x2x2x4096x1.ReducesTo [2] S4x2x4096x1) (h : Fin 4) (b : Fin 2) (i : Fin 4096)
    (z : Fin 1) : Finset.fold max e v (Finset.univ.filter fun y => R.drop y = ix4 h b i z) = Finset.univ.fold max e fun d : Fin 2 => v (ix5 h b d i z) :=
  Shape.ReducesTo.fold_fiber_r5_a2 R (ix4 h b i z) max e v

/-- The first encoder's first layer, not yet rectified. -/
theorem r3 : (mat (n := 4096) (k := 64) (φ := .f32) (res_main_v3 (F := Ideal) V)) = fun i j => rowMul ((mat (n := 4096) (k := 4096) (φ := .f32) (V (Proc.devRef .tc main_arg6))) i) (mat (n := 4096) (k := 64) (φ := .f32) (V (Proc.devRef .tc main_arg8))) j + (vec (n := 64) (φ := .f32) (V (Proc.devRef .tc main_arg9))) j := by
  funext i j
  show res_main_v3 (F := Ideal) V (ix2 i j) = _
  pointwise [res_main_v3]
  rfl

/-- The first encoder's second layer, not yet rectified. -/
theorem r8 : (mat (n := 4096) (k := 64) (φ := .f32) (res_main_v8 (F := Ideal) V)) = fun i j => rowMul (fun p => lrelu ((mat (n := 4096) (k := 64) (φ := .f32) (res_main_v3 (F := Ideal) V)) i p)) (mat (n := 64) (k := 64) (φ := .f32) (V (Proc.devRef .tc main_arg10))) j + (vec (n := 64) (φ := .f32) (V (Proc.devRef .tc main_arg11))) j := by
  funext i j
  show res_main_v8 (F := Ideal) V (ix2 i j) = _
  pointwise [res_main_v8]
  rfl

/-- The first encoder's table propagated over the users', the items' and the users' graph. -/
theorem r12 : (mat (n := 4096) (k := 64) (φ := .f32) (res_main_v12 (F := Ideal) V)) = mul (mat (n := 4096) (k := 4096) (φ := .f32) (V (Proc.devRef .tc main_arg0))) (mul (mat (n := 4096) (k := 4096) (φ := .f32) (V (Proc.devRef .tc main_arg1))) (mul (mat (n := 4096) (k := 4096) (φ := .f32) (V (Proc.devRef .tc main_arg0))) fun i j => lrelu ((mat (n := 4096) (k := 64) (φ := .f32) (res_main_v8 (F := Ideal) V)) i j))) := by
  funext i j
  show res_main_v12 (F := Ideal) V (ix2 i j) = _
  pointwise [res_main_v12]
  rfl

/-- And once more over the items' graph. -/
theorem r13 : (mat (n := 4096) (k := 64) (φ := .f32) (res_main_v13 (F := Ideal) V)) = mul (mat (n := 4096) (k := 4096) (φ := .f32) (V (Proc.devRef .tc main_arg1))) (mat (n := 4096) (k := 64) (φ := .f32) (res_main_v12 (F := Ideal) V)) := by
  funext i j
  show res_main_v13 (F := Ideal) V (ix2 i j) = _
  pointwise [res_main_v13]
  rfl

/-- An encoder's table, both layers and the second rectifier. -/
theorem encoded8 : (fun i j => lrelu ((mat (n := 4096) (k := 64) (φ := .f32) (res_main_v8 (F := Ideal) V)) i j)) = (fun i => enc ((mat (n := 4096) (k := 4096) (φ := .f32) (V (Proc.devRef .tc main_arg6))) i) (mat (n := 4096) (k := 64) (φ := .f32) (V (Proc.devRef .tc main_arg8))) (vec (n := 64) (φ := .f32) (V (Proc.devRef .tc main_arg9))) (mat (n := 64) (k := 64) (φ := .f32) (V (Proc.devRef .tc main_arg10))) (vec (n := 64) (φ := .f32) (V (Proc.devRef .tc main_arg11)))) := by
  rw [r8, r3]
  rfl

/-- The second encoder's first layer, not yet rectified. -/
theorem r19 : (mat (n := 4096) (k := 64) (φ := .f32) (res_main_v19 (F := Ideal) V)) = fun i j => rowMul ((mat (n := 4096) (k := 384) (φ := .f32) (V (Proc.devRef .tc main_arg7))) i) (mat (n := 384) (k := 64) (φ := .f32) (V (Proc.devRef .tc main_arg12))) j + (vec (n := 64) (φ := .f32) (V (Proc.devRef .tc main_arg13))) j := by
  funext i j
  show res_main_v19 (F := Ideal) V (ix2 i j) = _
  pointwise [res_main_v19]
  rfl

/-- The second encoder's second layer, not yet rectified. -/
theorem r24 : (mat (n := 4096) (k := 64) (φ := .f32) (res_main_v24 (F := Ideal) V)) = fun i j => rowMul (fun p => lrelu ((mat (n := 4096) (k := 64) (φ := .f32) (res_main_v19 (F := Ideal) V)) i p)) (mat (n := 64) (k := 64) (φ := .f32) (V (Proc.devRef .tc main_arg14))) j + (vec (n := 64) (φ := .f32) (V (Proc.devRef .tc main_arg15))) j := by
  funext i j
  show res_main_v24 (F := Ideal) V (ix2 i j) = _
  pointwise [res_main_v24]
  rfl

/-- The second encoder's table propagated over the users', the items' and the users' graph. -/
theorem r28 : (mat (n := 4096) (k := 64) (φ := .f32) (res_main_v28 (F := Ideal) V)) = mul (mat (n := 4096) (k := 4096) (φ := .f32) (V (Proc.devRef .tc main_arg0))) (mul (mat (n := 4096) (k := 4096) (φ := .f32) (V (Proc.devRef .tc main_arg1))) (mul (mat (n := 4096) (k := 4096) (φ := .f32) (V (Proc.devRef .tc main_arg0))) fun i j => lrelu ((mat (n := 4096) (k := 64) (φ := .f32) (res_main_v24 (F := Ideal) V)) i j))) := by
  funext i j
  show res_main_v28 (F := Ideal) V (ix2 i j) = _
  pointwise [res_main_v28]
  rfl

/-- And once more over the items' graph. -/
theorem r29 : (mat (n := 4096) (k := 64) (φ := .f32) (res_main_v29 (F := Ideal) V)) = mul (mat (n := 4096) (k := 4096) (φ := .f32) (V (Proc.devRef .tc main_arg1))) (mat (n := 4096) (k := 64) (φ := .f32) (res_main_v28 (F := Ideal) V)) := by
  funext i j
  show res_main_v29 (F := Ideal) V (ix2 i j) = _
  pointwise [res_main_v29]
  rfl

/-- An encoder's table, both layers and the second rectifier. -/
theorem encoded24 : (fun i j => lrelu ((mat (n := 4096) (k := 64) (φ := .f32) (res_main_v24 (F := Ideal) V)) i j)) = (fun i => enc ((mat (n := 4096) (k := 384) (φ := .f32) (V (Proc.devRef .tc main_arg7))) i) (mat (n := 384) (k := 64) (φ := .f32) (V (Proc.devRef .tc main_arg12))) (vec (n := 64) (φ := .f32) (V (Proc.devRef .tc main_arg13))) (mat (n := 64) (k := 64) (φ := .f32) (V (Proc.devRef .tc main_arg14))) (vec (n := 64) (φ := .f32) (V (Proc.devRef .tc main_arg15)))) := by
  rw [r24, r19]
  rfl

/-- The stack of the two graphs' rows. -/
theorem r34 (b : Fin 2) (i : Fin 4096) (j : Fin 64) : res_main_v34 (F := Ideal) V (ix3 b i j) = (stack ((mat (n := 4096) (k := 4096) (φ := .f32) (V (Proc.devRef .tc main_arg2))) i) ((mat (n := 4096) (k := 4096) (φ := .f32) (V (Proc.devRef .tc main_arg3))) i) (mat (n := 4096) (k := 64) (φ := .f32) (V (Proc.devRef .tc main_arg17)))) b j := by
  pointwise [res_main_v34]
  rfl

/-- The stack's rows through the query weights, by heads. -/
theorem r37 (h : Fin 4) (b : Fin 2) (i : Fin 4096) (d : Fin 16) :
    res_main_v37 (F := Ideal) V (ix4 h b i d) = query (stack ((mat (n := 4096) (k := 4096) (φ := .f32) (V (Proc.devRef .tc main_arg2))) i) ((mat (n := 4096) (k := 4096) (φ := .f32) (V (Proc.devRef .tc main_arg3))) i) (mat (n := 4096) (k := 64) (φ := .f32) (V (Proc.devRef .tc main_arg17)))) (mat (n := 64) (k := 64) (φ := .f32) (V (Proc.devRef .tc main_arg18))) b ⟨h.val * 16 + d.val, by omega⟩ := by
  have hs : (stack ((mat (n := 4096) (k := 4096) (φ := .f32) (V (Proc.devRef .tc main_arg2))) i) ((mat (n := 4096) (k := 4096) (φ := .f32) (V (Proc.devRef .tc main_arg3))) i) (mat (n := 4096) (k := 64) (φ := .f32) (V (Proc.devRef .tc main_arg17)))) b = fun p => res_main_v34 (F := Ideal) V (ix3 b i p) := funext fun p => (r34 V b i p).symm
  unfold query
  rw [hs]
  pointwise [res_main_v37]
  rfl

/-- The scores. -/
theorem r48 (h : Fin 4) (b c : Fin 2) (i : Fin 4096) (z : Fin 1) :
    res_main_v48 (F := Ideal) V (ix5 h b c i z) = score (stack ((mat (n := 4096) (k := 4096) (φ := .f32) (V (Proc.devRef .tc main_arg2))) i) ((mat (n := 4096) (k := 4096) (φ := .f32) (V (Proc.devRef .tc main_arg3))) i) (mat (n := 4096) (k := 64) (φ := .f32) (V (Proc.devRef .tc main_arg17)))) (mat (n := 64) (k := 64) (φ := .f32) (V (Proc.devRef .tc main_arg18))) h b c := by
  have hs : ∀ (b : Fin 2) (d : Fin 16), query (stack ((mat (n := 4096) (k := 4096) (φ := .f32) (V (Proc.devRef .tc main_arg2))) i) ((mat (n := 4096) (k := 4096) (φ := .f32) (V (Proc.devRef .tc main_arg3))) i) (mat (n := 4096) (k := 64) (φ := .f32) (V (Proc.devRef .tc main_arg17)))) (mat (n := 64) (k := 64) (φ := .f32) (V (Proc.devRef .tc main_arg18))) b ⟨h.val * 16 + d.val, by omega⟩ = res_main_v37 (F := Ideal) V (ix4 h b i d) :=
    fun b d => (r37 V h b i d).symm
  unfold score
  simp only [hs]
  pointwise [res_main_v48]
  rfl

/-- The softmax's numerators. -/
theorem r55 (h : Fin 4) (b c : Fin 2) (i : Fin 4096) (z : Fin 1) :
    res_main_v55 (F := Ideal) V (ix5 h b c i z) = weigh (stack ((mat (n := 4096) (k := 4096) (φ := .f32) (V (Proc.devRef .tc main_arg2))) i) ((mat (n := 4096) (k := 4096) (φ := .f32) (V (Proc.devRef .tc main_arg3))) i) (mat (n := 4096) (k := 64) (φ := .f32) (V (Proc.devRef .tc main_arg17)))) (mat (n := 64) (k := 64) (φ := .f32) (V (Proc.devRef .tc main_arg18))) h b c := by
  have hs : ∀ c, score (stack ((mat (n := 4096) (k := 4096) (φ := .f32) (V (Proc.devRef .tc main_arg2))) i) ((mat (n := 4096) (k := 4096) (φ := .f32) (V (Proc.devRef .tc main_arg3))) i) (mat (n := 4096) (k := 64) (φ := .f32) (V (Proc.devRef .tc main_arg17)))) (mat (n := 64) (k := 64) (φ := .f32) (V (Proc.devRef .tc main_arg18))) h b c = res_main_v48 (F := Ideal) V (ix5 h b c i 0) := fun c => (r48 V h b c i 0).symm
  have hz : z = 0 := Subsingleton.elim _ _
  subst hz
  unfold weigh
  simp only [hs]
  pointwise [res_main_v55]
  exact congrArg (fun y : EReal => Ideal.exp (Sub.sub (α := EReal) (res_main_v48 V (ix5 h b c i 0)) (max bottom y))) (fold_stack bottom (res_main_v48 V) _ h b i 0)

/-- The heads. -/
theorem r64 (h : Fin 4) (b : Fin 2) (i : Fin 4096) (j : Fin 64) :
    res_main_v64 (F := Ideal) V (ix4 h b i j) = head (stack ((mat (n := 4096) (k := 4096) (φ := .f32) (V (Proc.devRef .tc main_arg2))) i) ((mat (n := 4096) (k := 4096) (φ := .f32) (V (Proc.devRef .tc main_arg3))) i) (mat (n := 4096) (k := 64) (φ := .f32) (V (Proc.devRef .tc main_arg17)))) (mat (n := 64) (k := 64) (φ := .f32) (V (Proc.devRef .tc main_arg18))) h b j := by
  have hs : ∀ c, weigh (stack ((mat (n := 4096) (k := 4096) (φ := .f32) (V (Proc.devRef .tc main_arg2))) i) ((mat (n := 4096) (k := 4096) (φ := .f32) (V (Proc.devRef .tc main_arg3))) i) (mat (n := 4096) (k := 64) (φ := .f32) (V (Proc.devRef .tc main_arg17)))) (mat (n := 64) (k := 64) (φ := .f32) (V (Proc.devRef .tc main_arg18))) h b c = res_main_v55 (F := Ideal) V (ix5 h b c i 0) := fun c => (r55 V h b c i 0).symm
  have hx : (stack ((mat (n := 4096) (k := 4096) (φ := .f32) (V (Proc.devRef .tc main_arg2))) i) ((mat (n := 4096) (k := 4096) (φ := .f32) (V (Proc.devRef .tc main_arg3))) i) (mat (n := 4096) (k := 64) (φ := .f32) (V (Proc.devRef .tc main_arg17)))) b j = res_main_v34 (F := Ideal) V (ix3 b i j) := (r34 V b i j).symm
  unfold head
  simp only [hs]
  rw [hx]
  pointwise [res_main_v64]

/-- The attention's rows. -/
theorem r120 : (mat (n := 4096) (k := 64) (φ := .f32) (res_main_v120 (F := Ideal) V)) = fun i => attn (stack ((mat (n := 4096) (k := 4096) (φ := .f32) (V (Proc.devRef .tc main_arg2))) i) ((mat (n := 4096) (k := 4096) (φ := .f32) (V (Proc.devRef .tc main_arg3))) i) (mat (n := 4096) (k := 64) (φ := .f32) (V (Proc.devRef .tc main_arg17)))) (mat (n := 64) (k := 64) (φ := .f32) (V (Proc.devRef .tc main_arg18))) (mat (n := 256) (k := 64) (φ := .f32) (V (Proc.devRef .tc main_arg20))) := by
  funext i j
  have hs : ∀ h b j, head (stack ((mat (n := 4096) (k := 4096) (φ := .f32) (V (Proc.devRef .tc main_arg2))) i) ((mat (n := 4096) (k := 4096) (φ := .f32) (V (Proc.devRef .tc main_arg3))) i) (mat (n := 4096) (k := 64) (φ := .f32) (V (Proc.devRef .tc main_arg17)))) (mat (n := 64) (k := 64) (φ := .f32) (V (Proc.devRef .tc main_arg18))) h b j = res_main_v64 (F := Ideal) V (ix4 h b i j) := fun h b j => (r64 V h b i j).symm
  unfold attn heads
  simp only [hs]
  show res_main_v120 (F := Ideal) V (ix2 i j) = _
  pointwise [res_main_v120]
  rfl

/-- The stack of the two graphs' rows. -/
theorem r77 (b : Fin 2) (i : Fin 4096) (j : Fin 64) : res_main_v77 (F := Ideal) V (ix3 b i j) = (stack ((mat (n := 4096) (k := 4096) (φ := .f32) (V (Proc.devRef .tc main_arg4))) i) ((mat (n := 4096) (k := 4096) (φ := .f32) (V (Proc.devRef .tc main_arg5))) i) (mat (n := 4096) (k := 64) (φ := .f32) (V (Proc.devRef .tc main_arg16)))) b j := by
  pointwise [res_main_v77]
  rfl

/-- The stack's rows through the query weights, by heads. -/
theorem r80 (h : Fin 4) (b : Fin 2) (i : Fin 4096) (d : Fin 16) :
    res_main_v80 (F := Ideal) V (ix4 h b i d) = query (stack ((mat (n := 4096) (k := 4096) (φ := .f32) (V (Proc.devRef .tc main_arg4))) i) ((mat (n := 4096) (k := 4096) (φ := .f32) (V (Proc.devRef .tc main_arg5))) i) (mat (n := 4096) (k := 64) (φ := .f32) (V (Proc.devRef .tc main_arg16)))) (mat (n := 64) (k := 64) (φ := .f32) (V (Proc.devRef .tc main_arg18))) b ⟨h.val * 16 + d.val, by omega⟩ := by
  have hs : (stack ((mat (n := 4096) (k := 4096) (φ := .f32) (V (Proc.devRef .tc main_arg4))) i) ((mat (n := 4096) (k := 4096) (φ := .f32) (V (Proc.devRef .tc main_arg5))) i) (mat (n := 4096) (k := 64) (φ := .f32) (V (Proc.devRef .tc main_arg16)))) b = fun p => res_main_v77 (F := Ideal) V (ix3 b i p) := funext fun p => (r77 V b i p).symm
  unfold query
  rw [hs]
  pointwise [res_main_v80]
  rfl

/-- The scores. -/
theorem r91 (h : Fin 4) (b c : Fin 2) (i : Fin 4096) (z : Fin 1) :
    res_main_v91 (F := Ideal) V (ix5 h b c i z) = score (stack ((mat (n := 4096) (k := 4096) (φ := .f32) (V (Proc.devRef .tc main_arg4))) i) ((mat (n := 4096) (k := 4096) (φ := .f32) (V (Proc.devRef .tc main_arg5))) i) (mat (n := 4096) (k := 64) (φ := .f32) (V (Proc.devRef .tc main_arg16)))) (mat (n := 64) (k := 64) (φ := .f32) (V (Proc.devRef .tc main_arg18))) h b c := by
  have hs : ∀ (b : Fin 2) (d : Fin 16), query (stack ((mat (n := 4096) (k := 4096) (φ := .f32) (V (Proc.devRef .tc main_arg4))) i) ((mat (n := 4096) (k := 4096) (φ := .f32) (V (Proc.devRef .tc main_arg5))) i) (mat (n := 4096) (k := 64) (φ := .f32) (V (Proc.devRef .tc main_arg16)))) (mat (n := 64) (k := 64) (φ := .f32) (V (Proc.devRef .tc main_arg18))) b ⟨h.val * 16 + d.val, by omega⟩ = res_main_v80 (F := Ideal) V (ix4 h b i d) :=
    fun b d => (r80 V h b i d).symm
  unfold score
  simp only [hs]
  pointwise [res_main_v91]
  rfl

/-- The softmax's numerators. -/
theorem r98 (h : Fin 4) (b c : Fin 2) (i : Fin 4096) (z : Fin 1) :
    res_main_v98 (F := Ideal) V (ix5 h b c i z) = weigh (stack ((mat (n := 4096) (k := 4096) (φ := .f32) (V (Proc.devRef .tc main_arg4))) i) ((mat (n := 4096) (k := 4096) (φ := .f32) (V (Proc.devRef .tc main_arg5))) i) (mat (n := 4096) (k := 64) (φ := .f32) (V (Proc.devRef .tc main_arg16)))) (mat (n := 64) (k := 64) (φ := .f32) (V (Proc.devRef .tc main_arg18))) h b c := by
  have hs : ∀ c, score (stack ((mat (n := 4096) (k := 4096) (φ := .f32) (V (Proc.devRef .tc main_arg4))) i) ((mat (n := 4096) (k := 4096) (φ := .f32) (V (Proc.devRef .tc main_arg5))) i) (mat (n := 4096) (k := 64) (φ := .f32) (V (Proc.devRef .tc main_arg16)))) (mat (n := 64) (k := 64) (φ := .f32) (V (Proc.devRef .tc main_arg18))) h b c = res_main_v91 (F := Ideal) V (ix5 h b c i 0) := fun c => (r91 V h b c i 0).symm
  have hz : z = 0 := Subsingleton.elim _ _
  subst hz
  unfold weigh
  simp only [hs]
  pointwise [res_main_v98]
  exact congrArg (fun y : EReal => Ideal.exp (Sub.sub (α := EReal) (res_main_v91 V (ix5 h b c i 0)) (max bottom y))) (fold_stack bottom (res_main_v91 V) _ h b i 0)

/-- The heads. -/
theorem r107 (h : Fin 4) (b : Fin 2) (i : Fin 4096) (j : Fin 64) :
    res_main_v107 (F := Ideal) V (ix4 h b i j) = head (stack ((mat (n := 4096) (k := 4096) (φ := .f32) (V (Proc.devRef .tc main_arg4))) i) ((mat (n := 4096) (k := 4096) (φ := .f32) (V (Proc.devRef .tc main_arg5))) i) (mat (n := 4096) (k := 64) (φ := .f32) (V (Proc.devRef .tc main_arg16)))) (mat (n := 64) (k := 64) (φ := .f32) (V (Proc.devRef .tc main_arg18))) h b j := by
  have hs : ∀ c, weigh (stack ((mat (n := 4096) (k := 4096) (φ := .f32) (V (Proc.devRef .tc main_arg4))) i) ((mat (n := 4096) (k := 4096) (φ := .f32) (V (Proc.devRef .tc main_arg5))) i) (mat (n := 4096) (k := 64) (φ := .f32) (V (Proc.devRef .tc main_arg16)))) (mat (n := 64) (k := 64) (φ := .f32) (V (Proc.devRef .tc main_arg18))) h b c = res_main_v98 (F := Ideal) V (ix5 h b c i 0) := fun c => (r98 V h b c i 0).symm
  have hx : (stack ((mat (n := 4096) (k := 4096) (φ := .f32) (V (Proc.devRef .tc main_arg4))) i) ((mat (n := 4096) (k := 4096) (φ := .f32) (V (Proc.devRef .tc main_arg5))) i) (mat (n := 4096) (k := 64) (φ := .f32) (V (Proc.devRef .tc main_arg16)))) b j = res_main_v77 (F := Ideal) V (ix3 b i j) := (r77 V b i j).symm
  unfold head
  simp only [hs]
  rw [hx]
  pointwise [res_main_v107]

/-- The attention's rows. -/
theorem r123 : (mat (n := 4096) (k := 64) (φ := .f32) (res_main_v123 (F := Ideal) V)) = fun i => attn (stack ((mat (n := 4096) (k := 4096) (φ := .f32) (V (Proc.devRef .tc main_arg4))) i) ((mat (n := 4096) (k := 4096) (φ := .f32) (V (Proc.devRef .tc main_arg5))) i) (mat (n := 4096) (k := 64) (φ := .f32) (V (Proc.devRef .tc main_arg16)))) (mat (n := 64) (k := 64) (φ := .f32) (V (Proc.devRef .tc main_arg18))) (mat (n := 256) (k := 64) (φ := .f32) (V (Proc.devRef .tc main_arg20))) := by
  funext i j
  have hs : ∀ h b j, head (stack ((mat (n := 4096) (k := 4096) (φ := .f32) (V (Proc.devRef .tc main_arg4))) i) ((mat (n := 4096) (k := 4096) (φ := .f32) (V (Proc.devRef .tc main_arg5))) i) (mat (n := 4096) (k := 64) (φ := .f32) (V (Proc.devRef .tc main_arg16)))) (mat (n := 64) (k := 64) (φ := .f32) (V (Proc.devRef .tc main_arg18))) h b j = res_main_v107 (F := Ideal) V (ix4 h b i j) := fun h b j => (r107 V h b i j).symm
  unfold attn heads
  simp only [hs]
  show res_main_v123 (F := Ideal) V (ix2 i j) = _
  pointwise [res_main_v123]
  rfl

/-- The items' starting table. -/
theorem r145 : (mat (n := 4096) (k := 64) (φ := .f32) (res_main_v145 (F := Ideal) V)) = fun i => start ((mat (n := 4096) (k := 64) (φ := .f32) (V (Proc.devRef .tc main_arg17))) i) ((mat (n := 4096) (k := 64) (φ := .f32) (res_main_v123 (F := Ideal) V)) i) := by
  funext i j
  show res_main_v145 (F := Ideal) V (ix2 i j) = _
  pointwise [res_main_v145]
  rfl

/-- The users' graph times it. -/
theorem r146 : (mat (n := 4096) (k := 64) (φ := .f32) (res_main_v146 (F := Ideal) V)) = mul (mat (n := 4096) (k := 4096) (φ := .f32) (V (Proc.devRef .tc main_arg0))) (mat (n := 4096) (k := 64) (φ := .f32) (res_main_v145 (F := Ideal) V)) := by
  funext i j
  show res_main_v146 (F := Ideal) V (ix2 i j) = _
  pointwise [res_main_v146]
  rfl

/-- The items' graph times that. -/
theorem r147 : (mat (n := 4096) (k := 64) (φ := .f32) (res_main_v147 (F := Ideal) V)) = mul (mat (n := 4096) (k := 4096) (φ := .f32) (V (Proc.devRef .tc main_arg1))) (mat (n := 4096) (k := 64) (φ := .f32) (res_main_v146 (F := Ideal) V)) := by
  funext i j
  show res_main_v147 (F := Ideal) V (ix2 i j) = _
  pointwise [res_main_v147]
  rfl

/-- The softmax's numerators. -/
theorem r165 : (mat (n := 4096) (k := 64) (φ := .f32) (res_main_v165 (F := Ideal) V)) = fun i j => Ideal.exp ((mat (n := 4096) (k := 64) (φ := .f32) (res_main_v147 (F := Ideal) V)) i j - max bottom (top ((mat (n := 4096) (k := 64) (φ := .f32) (res_main_v147 (F := Ideal) V)) i))) := by
  funext i j
  show res_main_v165 (F := Ideal) V (ix2 i j) = _
  pointwise [res_main_v165]
  exact congrArg (fun y : EReal => Ideal.exp (Sub.sub (α := EReal) (res_main_v147 V (ix2 i j)) (max bottom y))) (fold_row bottom (res_main_v147 V) _ i)

/-- The users' graph times the softmax. -/
theorem r170 : (mat (n := 4096) (k := 64) (φ := .f32) (res_main_v170 (F := Ideal) V)) = mul (mat (n := 4096) (k := 4096) (φ := .f32) (V (Proc.devRef .tc main_arg0))) fun i j => Ideal.div ((mat (n := 4096) (k := 64) (φ := .f32) (res_main_v165 (F := Ideal) V)) i j) (∑ k, (mat (n := 4096) (k := 64) (φ := .f32) (res_main_v165 (F := Ideal) V)) i k) := by
  funext i j
  show res_main_v170 (F := Ideal) V (ix2 i j) = _
  pointwise [res_main_v170]
  rfl

/-- The softmax in its short form. -/
theorem softened170 : (mat (n := 4096) (k := 64) (φ := .f32) (res_main_v170 (F := Ideal) V)) = mul (mat (n := 4096) (k := 4096) (φ := .f32) (V (Proc.devRef .tc main_arg0))) fun i => soft ((mat (n := 4096) (k := 64) (φ := .f32) (res_main_v147 (F := Ideal) V)) i) := by
  rw [r170, r165]
  have hb : ∀ x : Fin 64 → EReal, max bottom (top x) = top x := fun x => max_eq_right ((Finset.le_fold_max _).2 (Or.inl le_rfl))
  simp only [hb]
  rfl

/-- A row of the reference's result: the mean of three rows, and the two normalised rows mixed in one after the other. -/
def answer (a b c f0 f1 : Fin 64 → EReal) : Fin 64 → EReal :=
  fun j => Ideal.div (a j + b j + c j) three + catRate * nrm f0 j + catRate * nrm f1 j

/-- The users' result. -/
def refU : FVec Ideal S4096x64 .f32 := fun y =>
  answer (start ((mat (n := 4096) (k := 64) (φ := .f32) (V (Proc.devRef .tc main_arg16))) (y 0)) ((mat (n := 4096) (k := 64) (φ := .f32) (res_main_v120 (F := Ideal) V)) (y 0))) ((mat (n := 4096) (k := 64) (φ := .f32) (res_main_v146 (F := Ideal) V)) (y 0)) ((mat (n := 4096) (k := 64) (φ := .f32) (res_main_v170 (F := Ideal) V)) (y 0)) ((mat (n := 4096) (k := 64) (φ := .f32) (res_main_v12 (F := Ideal) V)) (y 0)) ((mat (n := 4096) (k := 64) (φ := .f32) (res_main_v28 (F := Ideal) V)) (y 0)) (y 1)
/-- The items' result. -/
def refI : FVec Ideal S4096x64 .f32 := fun y =>
  answer ((mat (n := 4096) (k := 64) (φ := .f32) (res_main_v145 (F := Ideal) V)) (y 0)) ((mat (n := 4096) (k := 64) (φ := .f32) (res_main_v147 (F := Ideal) V)) (y 0)) (mul (mat (n := 4096) (k := 4096) (φ := .f32) (V (Proc.devRef .tc main_arg1))) (mat (n := 4096) (k := 64) (φ := .f32) (res_main_v170 (F := Ideal) V)) (y 0))
    ((mat (n := 4096) (k := 64) (φ := .f32) (res_main_v13 (F := Ideal) V)) (y 0)) ((mat (n := 4096) (k := 64) (φ := .f32) (res_main_v29 (F := Ideal) V)) (y 0)) (y 1)

/-- A table entry by entry. -/
theorem by_entries (x y : FVec Ideal S4096x64 .f32) (h : ∀ (i : Fin 4096) (j : Fin 64), x (ix2 i j) = y (ix2 i j)) : x = y := by
  funext q
  rw [eq_ix2 q]
  exact h _ _

set_option maxHeartbeats 4000000 in
/-- The reference's run, each result at its table. -/
theorem run_tables (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v218) = refU (StableHlo.launchContents m c)
      ∧ r.2.mem ((c.tc : Thread nD τ).loc main_v229) = refI (StableHlo.launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20) := by
  refine (θ_run _ _ _).mono (fun r h c => ⟨(h c).1.trans ?_, (h c).2.1.trans ?_, (h c).2.2⟩) (run m ρ)
  · refine by_entries _ _ fun i j => ?_
    show _ = answer _ _ _ _ _ j
    pointwise
    rw [Fin.sum_univ_three]
    rfl
  · refine by_entries _ _ fun i j => ?_
    show _ = answer _ _ _ _ _ j
    pointwise
    rw [Fin.sum_univ_three]
    rfl

end Cert.ReferenceIdeal.Value

end
-- ==== Proof.Compare.lean ====
/- The propagation's 192-column tables read in pieces of 64 columns, and the reference's closing sum against the kernel's. -/
module

public import proofs.«01_k».proof.Proof.Ref

@[expose] public section

set_option maxRecDepth 16384

noncomputable section

namespace Cert.Maths

open Idealize.ShloMosaic

/-! ## Pieces of 64 columns -/

theorem left_beside {n : ℕ} (f : Mat n 128) (g : Mat n 64) : (fun i => left (beside f g i)) = fun i (q : Fin 64) => f i ⟨q.val, by omega⟩ := by
  funext i q
  exact dif_pos (show q.val < 128 by omega)

theorem middle_beside {n : ℕ} (f : Mat n 128) (g : Mat n 64) : (fun i => middle (beside f g i)) = fun i (q : Fin 64) => f i ⟨64 + q.val, by omega⟩ := by
  funext i q
  exact dif_pos (show 64 + q.val < 128 by omega)

theorem right_beside {n : ℕ} (f : Mat n 128) (g : Mat n 64) : (fun i => right (beside f g i)) = g := by
  funext i q
  exact (dif_neg (show ¬ 128 + q.val < 128 by omega)).trans (congrArg (g i) (Fin.ext (show 128 + q.val - 128 = q.val by omega)))

theorem left_softened {n : ℕ} (T : Mat n 192) : (fun i => left (softened T i)) = fun i => left (T i) := by
  funext i q
  exact if_pos (show q.val < 128 by omega)

theorem middle_softened {n : ℕ} (T : Mat n 192) : (fun i => middle (softened T i)) = fun i => middle (T i) := by
  funext i q
  exact if_pos (show 64 + q.val < 128 by omega)

theorem right_softened {n : ℕ} (T : Mat n 192) : (fun i => right (softened T i)) = fun i => soft (right (T i)) := by
  funext i q
  exact (if_neg (show ¬ 128 + q.val < 128 by omega)).trans
    (congrArg (soft (right (T i))) (Fin.ext (show 128 + q.val - 128 = q.val by omega)))

/-- A piece of a product is the product of the piece. -/
theorem left_mul {n k : ℕ} (A : Mat n k) (T : Mat k 192) : (fun i => left (mul A T i)) = mul A fun i => left (T i) := rfl
theorem middle_mul {n k : ℕ} (A : Mat n k) (T : Mat k 192) : (fun i => middle (mul A T i)) = mul A fun i => middle (T i) := rfl
theorem right_mul {n k : ℕ} (A : Mat n k) (T : Mat k 192) : (fun i => right (mul A T i)) = mul A fun i => right (T i) := rfl

variable (ui iu : Mat 4096 4096) (u : Mat 4096 64) (f : Mat 4096 128) (g : Mat 4096 64)

theorem right_tab1 : (fun i => right (tab1 ui f g i)) = mul ui g := by
  unfold tab1
  rw [right_mul, right_beside]

theorem right_tabI : (fun i => right (tabI ui iu f g i)) = mul iu (mul ui g) := by
  unfold tabI
  rw [right_mul, right_tab1]

theorem left_tab3 : (fun i => left (tab3 ui iu f g i)) = mul ui (mul iu (mul ui fun i (q : Fin 64) => f i ⟨q.val, by omega⟩)) := by
  unfold tab3 tabI tab1
  rw [left_mul, left_softened, left_mul, left_mul, left_beside]

theorem middle_tab3 : (fun i => middle (tab3 ui iu f g i)) = mul ui (mul iu (mul ui fun i (q : Fin 64) => f i ⟨64 + q.val, by omega⟩)) := by
  unfold tab3 tabI tab1
  rw [middle_mul, middle_softened, middle_mul, middle_mul, middle_beside]

theorem right_tab3 : (fun i => right (tab3 ui iu f g i)) = mul ui fun i => soft (mul iu (mul ui g) i) := by
  unfold tab3
  rw [right_mul, right_softened, ← right_tabI ui iu f g]

/-- The users' result, piece by piece. -/
theorem resU_eq (i : Fin 4096) : resU ui iu u f g i = finish (u i) (mul ui g i) (mul ui (fun k => soft (mul iu (mul ui g) k)) i)
    (mul ui (mul iu (mul ui fun i (q : Fin 64) => f i ⟨q.val, by omega⟩)) i) (mul ui (mul iu (mul ui fun i (q : Fin 64) => f i ⟨64 + q.val, by omega⟩)) i) := by
  rw [← right_tab3 ui iu f g, ← left_tab3 ui iu f g, ← middle_tab3 ui iu f g, ← right_tab1 ui f g]
  rfl

/-- The items' result, piece by piece. -/
theorem resI_eq (i : Fin 4096) : resI ui iu f g i = finish (g i) (mul iu (mul ui g) i) (mul iu (mul ui fun k => soft (mul iu (mul ui g) k)) i)
    (mul iu (mul ui (mul iu (mul ui fun i (q : Fin 64) => f i ⟨q.val, by omega⟩))) i) (mul iu (mul ui (mul iu (mul ui fun i (q : Fin 64) => f i ⟨64 + q.val, by omega⟩))) i) := by
  rw [← right_tab3 ui iu f g, ← left_tab3 ui iu f g, ← middle_tab3 ui iu f g, ← right_tabI ui iu f g]
  rfl

/-- Mixing the two normalised rows in one after the other is mixing in their sum: the rate is a nonnegative real, so it
    distributes over any two extended reals. -/
theorem answer_eq (a b c f0 f1 : Fin 64 → EReal) : Cert.ReferenceIdeal.Value.answer a b c f0 f1 = finish a b c f0 f1 := by
  obtain ⟨r, hr, e⟩ := catRate_real
  funext j
  unfold Cert.ReferenceIdeal.Value.answer finish
  rw [EReal.left_distrib_of_nonneg_of_ne_top (by rw [e]; exact EReal.coe_nonneg.2 hr) (by rw [e]; exact EReal.coe_ne_top r), add_assoc]

end Cert.Maths

end
-- ==== Proof.Entry.lean ====
/- The kernel's two results over the launch memory: both calls' closed forms, each operand read back to the argument it is. -/
module

public import proofs.«01_k».proof.Proof.Call0
public import proofs.«01_k».proof.Proof.Call1
public import proofs.«01_k».proof.Proof.Compare
public import proofs.«01_k».proof.Proof.Whole
public import Idealize.ShloMosaic.Lib.Claim

@[expose] public section

set_option maxRecDepth 16384

noncomputable section

namespace Cert.KernelIdeal.Run

open Cert.KernelIdeal.Gen Cert.Maths
open Idealize.ShloMosaic Idealize.ShloMosaic.TcCoe Idealize.SL.Sem

variable (m : (ℓ : Loc nD τ sig) → Buf (Elt Ideal) ℓ) (ρ : Dev nD → PrngReg) (c : Dev nD)

/-- The first call finds each argument as launched. -/
theorem arg_read (a : Ref sig .tc) (h : a ∈ argRefs) : V1 m ρ c a = m ((c : Thread nD τ).loc a) := W1_args m ρ c a h

/-- The bias rows the first call reads are the bias vectors. -/
theorem bias0 : mat (n := 1) (k := 64) (φ := .f32) (V1 m ρ c main_v0) 0 = vec (n := 64) (φ := .f32) (m ((c : Thread nD τ).loc main_arg9)) := by
  funext j
  show StableHlo.after hostOps0 (W0 m ρ c) (Proc.devRef .tc main_v0) (ix2 0 j) = _
  after_results
  pointwise
  rfl

theorem bias1 : mat (n := 1) (k := 64) (φ := .f32) (V1 m ρ c main_v1) 0 = vec (n := 64) (φ := .f32) (m ((c : Thread nD τ).loc main_arg11)) := by
  funext j
  show StableHlo.after hostOps0 (W0 m ρ c) (Proc.devRef .tc main_v1) (ix2 0 j) = _
  after_results
  pointwise
  rfl

theorem bias2 : mat (n := 1) (k := 64) (φ := .f32) (V1 m ρ c main_v2) 0 = vec (n := 64) (φ := .f32) (m ((c : Thread nD τ).loc main_arg13)) := by
  funext j
  show StableHlo.after hostOps0 (W0 m ρ c) (Proc.devRef .tc main_v2) (ix2 0 j) = _
  after_results
  pointwise
  rfl

theorem bias3 : mat (n := 1) (k := 64) (φ := .f32) (V1 m ρ c main_v3) 0 = vec (n := 64) (φ := .f32) (m ((c : Thread nD τ).loc main_arg15)) := by
  funext j
  show StableHlo.after hostOps0 (W0 m ρ c) (Proc.devRef .tc main_v3) (ix2 0 j) = _
  after_results
  pointwise
  rfl

/-- The users' starting table, over the launch memory. -/
def startU : Mat 4096 64 := fun i =>
  start ((mat (n := 4096) (k := 64) (φ := .f32) (m ((c : Thread nD τ).loc main_arg16))) i) (fuse ((mat (n := 4096) (k := 4096) (φ := .f32) (m ((c : Thread nD τ).loc main_arg2))) i) ((mat (n := 4096) (k := 4096) (φ := .f32) (m ((c : Thread nD τ).loc main_arg3))) i) (mat (n := 4096) (k := 64) (φ := .f32) (m ((c : Thread nD τ).loc main_arg17))) (mat (n := 256) (k := 64) (φ := .f32) (m ((c : Thread nD τ).loc main_arg20))))

/-- The second call reads it. -/
theorem startU_read : mat (n := 4096) (k := 64) (φ := .f32) (V2 m ρ c main_v4_0) = startU m c := by
  have e : V2 m ρ c main_v4_0 = arr19 (V1 m ρ) c := (W2_arr m ρ c 19).trans (users (V1 m ρ) c)
  rw [e]
  show (fun i => start ((mat (n := 4096) (k := 64) (φ := .f32) (V1 m ρ c main_arg16)) i) (fuse ((mat (n := 4096) (k := 4096) (φ := .f32) (V1 m ρ c main_arg2)) i) ((mat (n := 4096) (k := 4096) (φ := .f32) (V1 m ρ c main_arg3)) i) (mat (n := 4096) (k := 64) (φ := .f32) (V1 m ρ c main_arg17)) (mat (n := 256) (k := 64) (φ := .f32) (V1 m ρ c main_arg20)))) = _
  rw [arg_read m ρ c main_arg16 (by decide), arg_read m ρ c main_arg2 (by decide), arg_read m ρ c main_arg3 (by decide), arg_read m ρ c main_arg17 (by decide), arg_read m ρ c main_arg20 (by decide)]
  rfl

/-- The items' starting table, over the launch memory. -/
def startI : Mat 4096 64 := fun i =>
  start ((mat (n := 4096) (k := 64) (φ := .f32) (m ((c : Thread nD τ).loc main_arg17))) i) (fuse ((mat (n := 4096) (k := 4096) (φ := .f32) (m ((c : Thread nD τ).loc main_arg4))) i) ((mat (n := 4096) (k := 4096) (φ := .f32) (m ((c : Thread nD τ).loc main_arg5))) i) (mat (n := 4096) (k := 64) (φ := .f32) (m ((c : Thread nD τ).loc main_arg16))) (mat (n := 256) (k := 64) (φ := .f32) (m ((c : Thread nD τ).loc main_arg20))))

/-- The second call reads it. -/
theorem startI_read : mat (n := 4096) (k := 64) (φ := .f32) (V2 m ρ c main_v4_1) = startI m c := by
  have e : V2 m ρ c main_v4_1 = arr20 (V1 m ρ) c := (W2_arr m ρ c 20).trans (items (V1 m ρ) c)
  rw [e]
  show (fun i => start ((mat (n := 4096) (k := 64) (φ := .f32) (V1 m ρ c main_arg17)) i) (fuse ((mat (n := 4096) (k := 4096) (φ := .f32) (V1 m ρ c main_arg4)) i) ((mat (n := 4096) (k := 4096) (φ := .f32) (V1 m ρ c main_arg5)) i) (mat (n := 4096) (k := 64) (φ := .f32) (V1 m ρ c main_arg16)) (mat (n := 256) (k := 64) (φ := .f32) (V1 m ρ c main_arg20)))) = _
  rw [arg_read m ρ c main_arg17 (by decide), arg_read m ρ c main_arg4 (by decide), arg_read m ρ c main_arg5 (by decide), arg_read m ρ c main_arg16 (by decide), arg_read m ρ c main_arg20 (by decide)]
  rfl

/-- An encoder's table, over the launch memory. -/
def encodedA : Mat 4096 64 := fun i => enc ((mat (n := 4096) (k := 4096) (φ := .f32) (m ((c : Thread nD τ).loc main_arg6))) i) (mat (n := 4096) (k := 64) (φ := .f32) (m ((c : Thread nD τ).loc main_arg8))) (vec (n := 64) (φ := .f32) (m ((c : Thread nD τ).loc main_arg9))) (mat (n := 64) (k := 64) (φ := .f32) (m ((c : Thread nD τ).loc main_arg10))) (vec (n := 64) (φ := .f32) (m ((c : Thread nD τ).loc main_arg11)))

/-- The first call leaves it in the first 64 columns. -/
theorem encodedA_read : encA (V1 m ρ) c = encodedA m c := by
  unfold encA
  rw [bias0, bias1, arg_read m ρ c main_arg6 (by decide), arg_read m ρ c main_arg8 (by decide), arg_read m ρ c main_arg10 (by decide)]
  rfl

/-- An encoder's table, over the launch memory. -/
def encodedB : Mat 4096 64 := fun i => enc ((mat (n := 4096) (k := 384) (φ := .f32) (m ((c : Thread nD τ).loc main_arg7))) i) (mat (n := 384) (k := 64) (φ := .f32) (m ((c : Thread nD τ).loc main_arg12))) (vec (n := 64) (φ := .f32) (m ((c : Thread nD τ).loc main_arg13))) (mat (n := 64) (k := 64) (φ := .f32) (m ((c : Thread nD τ).loc main_arg14))) (vec (n := 64) (φ := .f32) (m ((c : Thread nD τ).loc main_arg15)))

/-- The first call leaves it in the last 64 columns. -/
theorem encodedB_read : encB (V1 m ρ) c = encodedB m c := by
  unfold encB
  rw [bias2, bias3, arg_read m ρ c main_arg7 (by decide), arg_read m ρ c main_arg12 (by decide), arg_read m ρ c main_arg14 (by decide)]
  rfl

/-- The second call reads the two encoders' tables side by side. -/
theorem encoded_read (i : Fin 4096) (j : Fin 128) : tE (V2 m ρ) c i j
    = if h : j.val < 64 then encodedA m c i ⟨j.val, h⟩ else encodedB m c i ⟨j.val - 64, by omega⟩ := by
  have e : V2 m ρ c main_v4_2 = arr21 (V1 m ρ) c := (W2_arr m ρ c 21).trans (encoders (V1 m ρ) c)
  show V2 m ρ c main_v4_2 (ix2 i j) = _
  rw [e, arr21_at, encodedA_read, encodedB_read]

/-- The first 64 columns are the first encoder's table. -/
theorem first_columns : (fun i (q : Fin 64) => tE (V2 m ρ) c i ⟨q.val, by omega⟩) = encodedA m c := by
  funext i q
  exact (encoded_read m ρ c i _).trans (dif_pos q.isLt)

/-- The last 64 columns are the second encoder's table. -/
theorem last_columns : (fun i (q : Fin 64) => tE (V2 m ρ) c i ⟨64 + q.val, by omega⟩) = encodedB m c := by
  funext i q
  exact (encoded_read m ρ c i _).trans ((dif_neg (show ¬ 64 + q.val < 64 by omega)).trans
    (congrArg (encodedB m c i) (Fin.ext (show 64 + q.val - 64 = q.val by omega))))

/-- The two graphs the second call reads. -/
theorem graphU : gU (V2 m ρ) c = (mat (n := 4096) (k := 4096) (φ := .f32) (m ((c : Thread nD τ).loc main_arg0))) :=
  congrArg (mat (n := 4096) (k := 4096) (φ := .f32)) (W2_args m ρ c main_arg0 (by decide))
theorem graphI : gI (V2 m ρ) c = (mat (n := 4096) (k := 4096) (φ := .f32) (m ((c : Thread nD τ).loc main_arg1))) :=
  congrArg (mat (n := 4096) (k := 4096) (φ := .f32)) (W2_args m ρ c main_arg1 (by decide))

/-- A row of the kernel's users' result, over the launch memory. -/
theorem resU_read (i : Fin 4096) : resU (gU (V2 m ρ) c) (gI (V2 m ρ) c) (tU (V2 m ρ) c) (tE (V2 m ρ) c) (tI (V2 m ρ) c) i
    = finish (startU m c i) (mul (mat (n := 4096) (k := 4096) (φ := .f32) (m ((c : Thread nD τ).loc main_arg0))) (startI m c) i)
    (mul (mat (n := 4096) (k := 4096) (φ := .f32) (m ((c : Thread nD τ).loc main_arg0))) (fun k => soft (mul (mat (n := 4096) (k := 4096) (φ := .f32) (m ((c : Thread nD τ).loc main_arg1))) (mul (mat (n := 4096) (k := 4096) (φ := .f32) (m ((c : Thread nD τ).loc main_arg0))) (startI m c)) k)) i)
    (mul (mat (n := 4096) (k := 4096) (φ := .f32) (m ((c : Thread nD τ).loc main_arg0))) (mul (mat (n := 4096) (k := 4096) (φ := .f32) (m ((c : Thread nD τ).loc main_arg1))) (mul (mat (n := 4096) (k := 4096) (φ := .f32) (m ((c : Thread nD τ).loc main_arg0))) (encodedA m c))) i)
    (mul (mat (n := 4096) (k := 4096) (φ := .f32) (m ((c : Thread nD τ).loc main_arg0))) (mul (mat (n := 4096) (k := 4096) (φ := .f32) (m ((c : Thread nD τ).loc main_arg1))) (mul (mat (n := 4096) (k := 4096) (φ := .f32) (m ((c : Thread nD τ).loc main_arg0))) (encodedB m c))) i) := by
  rw [resU_eq, first_columns, last_columns, graphU, graphI]
  unfold tU tI
  rw [startU_read, startI_read]

/-- The users' result array, over the launch memory. -/
theorem result_users : W3 m ρ c (Proc.devRef .tc main_v5_0) = (fun y => finish (startU m c (y 0)) (mul (mat (n := 4096) (k := 4096) (φ := .f32) (m ((c : Thread nD τ).loc main_arg0))) (startI m c) (y 0))
    (mul (mat (n := 4096) (k := 4096) (φ := .f32) (m ((c : Thread nD τ).loc main_arg0))) (fun k => soft (mul (mat (n := 4096) (k := 4096) (φ := .f32) (m ((c : Thread nD τ).loc main_arg1))) (mul (mat (n := 4096) (k := 4096) (φ := .f32) (m ((c : Thread nD τ).loc main_arg0))) (startI m c)) k)) (y 0))
    (mul (mat (n := 4096) (k := 4096) (φ := .f32) (m ((c : Thread nD τ).loc main_arg0))) (mul (mat (n := 4096) (k := 4096) (φ := .f32) (m ((c : Thread nD τ).loc main_arg1))) (mul (mat (n := 4096) (k := 4096) (φ := .f32) (m ((c : Thread nD τ).loc main_arg0))) (encodedA m c))) (y 0))
    (mul (mat (n := 4096) (k := 4096) (φ := .f32) (m ((c : Thread nD τ).loc main_arg0))) (mul (mat (n := 4096) (k := 4096) (φ := .f32) (m ((c : Thread nD τ).loc main_arg1))) (mul (mat (n := 4096) (k := 4096) (φ := .f32) (m ((c : Thread nD τ).loc main_arg0))) (encodedB m c))) (y 0)) (y 1) : FVec Ideal S4096x64 .f32) := by
  refine ((W3_arr m ρ c 5).trans (users_result (V2 m ρ) c)).trans ?_
  funext y
  exact congrFun (resU_read m ρ c (y 0)) (y 1)

/-- A row of the kernel's items' result, over the launch memory. -/
theorem resI_read (i : Fin 4096) : resI (gU (V2 m ρ) c) (gI (V2 m ρ) c) (tE (V2 m ρ) c) (tI (V2 m ρ) c) i
    = finish (startI m c i) (mul (mat (n := 4096) (k := 4096) (φ := .f32) (m ((c : Thread nD τ).loc main_arg1))) (mul (mat (n := 4096) (k := 4096) (φ := .f32) (m ((c : Thread nD τ).loc main_arg0))) (startI m c)) i)
    (mul (mat (n := 4096) (k := 4096) (φ := .f32) (m ((c : Thread nD τ).loc main_arg1))) (mul (mat (n := 4096) (k := 4096) (φ := .f32) (m ((c : Thread nD τ).loc main_arg0))) fun k => soft (mul (mat (n := 4096) (k := 4096) (φ := .f32) (m ((c : Thread nD τ).loc main_arg1))) (mul (mat (n := 4096) (k := 4096) (φ := .f32) (m ((c : Thread nD τ).loc main_arg0))) (startI m c)) k)) i)
    (mul (mat (n := 4096) (k := 4096) (φ := .f32) (m ((c : Thread nD τ).loc main_arg1))) (mul (mat (n := 4096) (k := 4096) (φ := .f32) (m ((c : Thread nD τ).loc main_arg0))) (mul (mat (n := 4096) (k := 4096) (φ := .f32) (m ((c : Thread nD τ).loc main_arg1))) (mul (mat (n := 4096) (k := 4096) (φ := .f32) (m ((c : Thread nD τ).loc main_arg0))) (encodedA m c)))) i)
    (mul (mat (n := 4096) (k := 4096) (φ := .f32) (m ((c : Thread nD τ).loc main_arg1))) (mul (mat (n := 4096) (k := 4096) (φ := .f32) (m ((c : Thread nD τ).loc main_arg0))) (mul (mat (n := 4096) (k := 4096) (φ := .f32) (m ((c : Thread nD τ).loc main_arg1))) (mul (mat (n := 4096) (k := 4096) (φ := .f32) (m ((c : Thread nD τ).loc main_arg0))) (encodedB m c)))) i) := by
  rw [resI_eq, first_columns, last_columns, graphU, graphI]
  unfold tI
  rw [startI_read]

/-- The items' result array, over the launch memory. -/
theorem result_items : W3 m ρ c (Proc.devRef .tc main_v5_1) = (fun y => finish (startI m c (y 0)) (mul (mat (n := 4096) (k := 4096) (φ := .f32) (m ((c : Thread nD τ).loc main_arg1))) (mul (mat (n := 4096) (k := 4096) (φ := .f32) (m ((c : Thread nD τ).loc main_arg0))) (startI m c)) (y 0))
    (mul (mat (n := 4096) (k := 4096) (φ := .f32) (m ((c : Thread nD τ).loc main_arg1))) (mul (mat (n := 4096) (k := 4096) (φ := .f32) (m ((c : Thread nD τ).loc main_arg0))) fun k => soft (mul (mat (n := 4096) (k := 4096) (φ := .f32) (m ((c : Thread nD τ).loc main_arg1))) (mul (mat (n := 4096) (k := 4096) (φ := .f32) (m ((c : Thread nD τ).loc main_arg0))) (startI m c)) k)) (y 0))
    (mul (mat (n := 4096) (k := 4096) (φ := .f32) (m ((c : Thread nD τ).loc main_arg1))) (mul (mat (n := 4096) (k := 4096) (φ := .f32) (m ((c : Thread nD τ).loc main_arg0))) (mul (mat (n := 4096) (k := 4096) (φ := .f32) (m ((c : Thread nD τ).loc main_arg1))) (mul (mat (n := 4096) (k := 4096) (φ := .f32) (m ((c : Thread nD τ).loc main_arg0))) (encodedA m c)))) (y 0))
    (mul (mat (n := 4096) (k := 4096) (φ := .f32) (m ((c : Thread nD τ).loc main_arg1))) (mul (mat (n := 4096) (k := 4096) (φ := .f32) (m ((c : Thread nD τ).loc main_arg0))) (mul (mat (n := 4096) (k := 4096) (φ := .f32) (m ((c : Thread nD τ).loc main_arg1))) (mul (mat (n := 4096) (k := 4096) (φ := .f32) (m ((c : Thread nD τ).loc main_arg0))) (encodedB m c)))) (y 0)) (y 1) : FVec Ideal S4096x64 .f32) := by
  refine ((W3_arr m ρ c 6).trans (items_result (V2 m ρ) c)).trans ?_
  funext y
  exact congrFun (resI_read m ρ c (y 0)) (y 1)

end Cert.KernelIdeal.Run

end
-- ==== Proof.Finite.lean ====
/- The precondition, read back: the arrays it names hold real numbers. -/
module

public import proofs.«01_k».proof.Defs
public import proofs.«01_k».proof.Proof.Attn
public import Idealize.ShloMosaic.Lib.Pointwise
public import Idealize.ShloMosaic.Lib.ReduceAll

@[expose] public section

set_option maxRecDepth 16384

noncomputable section

namespace Cert.Pre_finite

open Idealize.ShloMosaic Cert.Maths

/-- The one index of a shape of no axes. -/
instance : Subsingleton S_.Idx := ⟨fun a b => funext fun d => d.elim0⟩

/-- A truth value that is the bit 1 is true. -/
theorem bit_one : ∀ b : Bool, BitVec.ofBool b = 1#1 → b = true := by decide

/-- An array whose entries all have an absolute value below infinity holds reals. -/
theorem all_real {n k : ℕ} (x : FVec Ideal ⟨2, ![n, k]⟩ .f32) (hb : S_.BroadcastsInDim ⟨2, ![n, k]⟩ (![] : Fin 0 → Fin 2))
    (hr : (⟨2, ![n, k]⟩ : Shape).ReducesTo [0, 1] S_) (hu : 0 < S_.numel)
    (e : Host.reduce IntOp.andi (cmpf .olt (Host.absf x) (broadcastInDim ⟨2, ![n, k]⟩ ![] hb (constant (F := Ideal) S_ .f32 0x7F800000#32)))
      (constantI S_ 1 1#1) hr hu ix0 = 1#1) : Real2 (mat x) := by
  refine real2_of_abs fun i j => ?_
  have h := Host.reduce_andi_all _ _ _ _ _ e (ix2 i j)
  pointwise at h
  have h' : max (mat x i j) (-(mat x i j)) < Ideal.ofBits .f32 0x7F800000#32 := of_decide_eq_true (bit_one _ h)
  constructor
  · exact (((le_max_left _ _).trans_lt h').trans_le le_top).ne
  · intro e
    rw [e, EReal.neg_bot] at h'
    exact not_top_lt ((le_max_right _ _).trans_lt h')

variable [Facts]

/-- Each array the precondition names holds reals. -/
theorem arrays_real (a0 a1 a2 a3 a4 a5 a6 : FVec Ideal S4096x4096 .f32) (a7 : FVec Ideal S4096x384 .f32) (a8 : FVec Ideal S4096x64 .f32)
    (a9 : FVec Ideal S64 .f32) (a10 : FVec Ideal S64x64 .f32) (a11 : FVec Ideal S64 .f32) (a12 : FVec Ideal S384x64 .f32) (a13 : FVec Ideal S64 .f32)
    (a14 : FVec Ideal S64x64 .f32) (a15 : FVec Ideal S64 .f32) (a16 a17 : FVec Ideal S4096x64 .f32) (a18 a19 : FVec Ideal S64x64 .f32)
    (a20 : FVec Ideal S256x64 .f32) (h : fn a0 a1 a2 a3 a4 a5 a6 a7 a8 a9 a10 a11 a12 a13 a14 a15 a16 a17 a18 a19 a20 = fun _ => 1#1) :
    Real2 (mat (n := 4096) (k := 4096) (φ := .f32) a2) ∧ Real2 (mat (n := 4096) (k := 4096) (φ := .f32) a3)
      ∧ Real2 (mat (n := 4096) (k := 4096) (φ := .f32) a4) ∧ Real2 (mat (n := 4096) (k := 4096) (φ := .f32) a5)
      ∧ Real2 (mat (n := 4096) (k := 64) (φ := .f32) a16) ∧ Real2 (mat (n := 4096) (k := 64) (φ := .f32) a17)
      ∧ Real2 (mat (n := 64) (k := 64) (φ := .f32) a18) ∧ Real2 (mat (n := 256) (k := 64) (φ := .f32) a20) := by
  have h0 := congrFun h ix0
  unfold fn fn_part1 fn_part2 at h0
  obtain ⟨h0, h8⟩ := IntOp.andi_eq_one.1 h0
  obtain ⟨h0, h7⟩ := IntOp.andi_eq_one.1 h0
  obtain ⟨h0, h6⟩ := IntOp.andi_eq_one.1 h0
  obtain ⟨h0, h5⟩ := IntOp.andi_eq_one.1 h0
  obtain ⟨h0, h4⟩ := IntOp.andi_eq_one.1 h0
  obtain ⟨h0, h3⟩ := IntOp.andi_eq_one.1 h0
  obtain ⟨h1, h2⟩ := IntOp.andi_eq_one.1 h0
  exact ⟨all_real a2 _ _ _ h1, all_real a3 _ _ _ h2, all_real a4 _ _ _ h3, all_real a5 _ _ _ h4, all_real a16 _ _ _ h5, all_real a17 _ _ _ h6,
    all_real a18 _ _ _ h7, all_real a20 _ _ _ h8⟩

end Cert.Pre_finite

end
-- ==== Proof.Same.lean ====
/- The two results as functions of the argument arrays, the kernel's and the reference's equal to them, and the value claim. -/
module

public import proofs.«01_k».proof.Proof.Frames
public import proofs.«01_k».proof.Proof.Entry
public import proofs.«01_k».proof.Proof.Finite
public import proofs.«01_k».proof.Proof.Compare
public import proofs.«01_k».proof.Proof.Gen.Pre_finite

@[expose] public section

set_option maxRecDepth 16384

noncomputable section

namespace Cert.Maths

open Idealize.ShloMosaic

variable (x0 : FVec Ideal ⟨2, ![4096, 4096]⟩ .f32) (x1 : FVec Ideal ⟨2, ![4096, 4096]⟩ .f32) (x2 : FVec Ideal ⟨2, ![4096, 4096]⟩ .f32) (x3 : FVec Ideal ⟨2, ![4096, 4096]⟩ .f32) (x4 : FVec Ideal ⟨2, ![4096, 4096]⟩ .f32) (x5 : FVec Ideal ⟨2, ![4096, 4096]⟩ .f32) (x6 : FVec Ideal ⟨2, ![4096, 4096]⟩ .f32) (x7 : FVec Ideal ⟨2, ![4096, 384]⟩ .f32) (x8 : FVec Ideal ⟨2, ![4096, 64]⟩ .f32) (x9 : FVec Ideal ⟨1, ![64]⟩ .f32) (x10 : FVec Ideal ⟨2, ![64, 64]⟩ .f32) (x11 : FVec Ideal ⟨1, ![64]⟩ .f32) (x12 : FVec Ideal ⟨2, ![384, 64]⟩ .f32) (x13 : FVec Ideal ⟨1, ![64]⟩ .f32) (x14 : FVec Ideal ⟨2, ![64, 64]⟩ .f32) (x15 : FVec Ideal ⟨1, ![64]⟩ .f32) (x16 : FVec Ideal ⟨2, ![4096, 64]⟩ .f32) (x17 : FVec Ideal ⟨2, ![4096, 64]⟩ .f32) (x20 : FVec Ideal ⟨2, ![256, 64]⟩ .f32)

/-- The users' starting table. -/
def firstU : Mat 4096 64 := fun i => start (mat x16 i) (fuse (mat x2 i) (mat x3 i) (mat x17) (mat x20))
/-- The items' starting table. -/
def firstI : Mat 4096 64 := fun i => start (mat x17 i) (fuse (mat x4 i) (mat x5 i) (mat x16) (mat x20))
/-- The first encoder's table. -/
def codeA : Mat 4096 64 := fun i => enc (mat x6 i) (mat x8) (vec x9) (mat x10) (vec x11)
/-- The second encoder's table. -/
def codeB : Mat 4096 64 := fun i => enc (mat x7 i) (mat x12) (vec x13) (mat x14) (vec x15)

/-- A row of the users' result: the mean of the starting row, its propagation and its softmax's, with the two encoders' tables mixed in. -/
def rowsU (ui iu : Mat 4096 4096) (su si ea eb : Mat 4096 64) (i : Fin 4096) : Fin 64 → EReal :=
  finish (su i) (mul ui si i) (mul ui (fun k => soft (mul iu (mul ui si) k)) i) (mul ui (mul iu (mul ui ea)) i) (mul ui (mul iu (mul ui eb)) i)

/-- A row of the items' result. -/
def rowsI (ui iu : Mat 4096 4096) (si ea eb : Mat 4096 64) (i : Fin 4096) : Fin 64 → EReal :=
  finish (si i) (mul iu (mul ui si) i) (mul iu (mul ui fun k => soft (mul iu (mul ui si) k)) i) (mul iu (mul ui (mul iu (mul ui ea))) i)
    (mul iu (mul ui (mul iu (mul ui eb))) i)

/-- The users' result, from the argument arrays. -/
def tableU : FVec Ideal ⟨2, ![4096, 64]⟩ .f32 := fun y =>
  rowsU (mat x0) (mat x1) (firstU x2 x3 x16 x17 x20) (firstI x4 x5 x16 x17 x20) (codeA x6 x8 x9 x10 x11) (codeB x7 x12 x13 x14 x15) (y 0) (y 1)

/-- The items' result, from the argument arrays. -/
def tableI : FVec Ideal ⟨2, ![4096, 64]⟩ .f32 := fun y =>
  rowsI (mat x0) (mat x1) (firstI x4 x5 x16 x17 x20) (codeA x6 x8 x9 x10 x11) (codeB x7 x12 x13 x14 x15) (y 0) (y 1)

end Cert.Maths

namespace Cert.KernelIdeal.Run

open Cert.KernelIdeal.Gen Cert.Maths
open Idealize.ShloMosaic Idealize.ShloMosaic.TcCoe Idealize.SL.Sem

variable (m : (ℓ : Loc nD τ sig) → Buf (Elt Ideal) ℓ) (ρ : Dev nD → PrngReg) (c : Dev nD)

/-- The kernel's users' result is `tableU` of its arguments. -/
theorem kernel_users : W3 m ρ c (Proc.devRef .tc main_v5_0) = Maths.tableU (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg20)) :=
  result_users m ρ c

/-- The kernel's items' result is `tableI` of its arguments. -/
theorem kernel_items : W3 m ρ c (Proc.devRef .tc main_v5_1) = Maths.tableI (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg20)) :=
  result_items m ρ c

end Cert.KernelIdeal.Run

namespace Cert.ReferenceIdeal.Value

open Idealize.ShloMosaic Idealize.ShloMosaic.TcCoe Idealize.SL.Sem
open Cert.ReferenceIdeal Cert.ReferenceIdeal.Gen Cert.Maths

variable (V : Valuation τ sig (Elt Ideal))

/-- The reference's users' result is `tableU` of its arguments, where the arrays its attention reads hold reals. -/
theorem reference_users (h2 : Real2 (mat (n := 4096) (k := 4096) (φ := .f32) (V (Proc.devRef .tc main_arg2)))) (h3 : Real2 (mat (n := 4096) (k := 4096) (φ := .f32) (V (Proc.devRef .tc main_arg3)))) (h4 : Real2 (mat (n := 4096) (k := 4096) (φ := .f32) (V (Proc.devRef .tc main_arg4)))) (h5 : Real2 (mat (n := 4096) (k := 4096) (φ := .f32) (V (Proc.devRef .tc main_arg5)))) (h16 : Real2 (mat (n := 4096) (k := 64) (φ := .f32) (V (Proc.devRef .tc main_arg16)))) (h17 : Real2 (mat (n := 4096) (k := 64) (φ := .f32) (V (Proc.devRef .tc main_arg17)))) (h18 : Real2 (mat (n := 64) (k := 64) (φ := .f32) (V (Proc.devRef .tc main_arg18)))) (h20 : Real2 (mat (n := 256) (k := 64) (φ := .f32) (V (Proc.devRef .tc main_arg20)))) :
    refU V = Maths.tableU (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg20)) := by
  unfold refU
  have eU := (r120 V).trans (funext fun i => attn_eq (h2.row i) (h3.row i) h17 h18 h20)
  have eI := (r123 V).trans (funext fun i => attn_eq (h4.row i) (h5.row i) h16 h18 h20)
  rw [softened170, r147, r146, r145, eI, eU, r28, r12, encoded8, encoded24]
  simp only [answer_eq]
  rfl

/-- The reference's items' result is `tableI` of its arguments, where the arrays its attention reads hold reals. -/
theorem reference_items (h4 : Real2 (mat (n := 4096) (k := 4096) (φ := .f32) (V (Proc.devRef .tc main_arg4)))) (h5 : Real2 (mat (n := 4096) (k := 4096) (φ := .f32) (V (Proc.devRef .tc main_arg5)))) (h16 : Real2 (mat (n := 4096) (k := 64) (φ := .f32) (V (Proc.devRef .tc main_arg16)))) (h18 : Real2 (mat (n := 64) (k := 64) (φ := .f32) (V (Proc.devRef .tc main_arg18)))) (h20 : Real2 (mat (n := 256) (k := 64) (φ := .f32) (V (Proc.devRef .tc main_arg20)))) :
    refI V = Maths.tableI (V (Proc.devRef .tc main_arg0)) (V (Proc.devRef .tc main_arg1)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg20)) := by
  unfold refI
  have eI := (r123 V).trans (funext fun i => attn_eq (h4.row i) (h5.row i) h16 h18 h20)
  rw [softened170, r147, r146, r145, eI, r29, r13, r28, r12, encoded8, encoded24]
  simp only [answer_eq]
  rfl

end Cert.ReferenceIdeal.Value

namespace Cert.Proof

open Idealize.ShloMosaic Idealize.ShloMosaic.TcCoe Idealize.ShloMosaic.Pipeline Idealize.SL.Sem Cert.Maths

/-- The ideal kernel and the reference, launched on the same arguments, end with the same two results, where the arrays the
    attention reads hold reals. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hagree
  refine ⟨fun c => Cert.KernelIdeal.Run.W3 m g c (Proc.devRef .tc Cert.KernelIdeal.main_v5_0),
    fun c => Cert.KernelIdeal.Run.W3 m g c (Proc.devRef .tc Cert.KernelIdeal.main_v5_1), ?_, ?_⟩
  · refine (θ_run _ _ _).mono (fun r h c => ?_) (Cert.KernelIdeal.Run.run m g)
    have ha := Cert.KernelIdeal.Run.run_args (r := r.2.mem) m g h.1 c
    exact ⟨Cert.KernelIdeal.Run.run_at (r := r.2.mem) m g h.1 c Cert.KernelIdeal.main_v5_0 (by decide),
      Cert.KernelIdeal.Run.run_at (r := r.2.mem) m g h.1 c Cert.KernelIdeal.main_v5_1 (by decide),
      ha Cert.KernelIdeal.main_arg0 (by decide), ha Cert.KernelIdeal.main_arg1 (by decide), ha Cert.KernelIdeal.main_arg2 (by decide), ha Cert.KernelIdeal.main_arg3 (by decide), ha Cert.KernelIdeal.main_arg4 (by decide), ha Cert.KernelIdeal.main_arg5 (by decide), ha Cert.KernelIdeal.main_arg6 (by decide), ha Cert.KernelIdeal.main_arg7 (by decide), ha Cert.KernelIdeal.main_arg8 (by decide), ha Cert.KernelIdeal.main_arg9 (by decide), ha Cert.KernelIdeal.main_arg10 (by decide), ha Cert.KernelIdeal.main_arg11 (by decide), ha Cert.KernelIdeal.main_arg12 (by decide), ha Cert.KernelIdeal.main_arg13 (by decide), ha Cert.KernelIdeal.main_arg14 (by decide), ha Cert.KernelIdeal.main_arg15 (by decide), ha Cert.KernelIdeal.main_arg16 (by decide), ha Cert.KernelIdeal.main_arg17 (by decide), ha Cert.KernelIdeal.main_arg18 (by decide), ha Cert.KernelIdeal.main_arg19 (by decide), ha Cert.KernelIdeal.main_arg20 (by decide)⟩
  · refine (θ_run _ _ _).mono (fun r h c => ⟨(h c).1.trans ?_, (h c).2.1.trans ?_, (h c).2.2⟩) (Cert.ReferenceIdeal.Value.run_tables m' g')
    · obtain ⟨a0, a1, a2, a3, a4, a5, a6, a7, a8, a9, a10, a11, a12, a13, a14, a15, a16, a17, a18, a19, a20⟩ := hagree c
      obtain ⟨h2, h3, h4, h5, h16, h17, h18, h20⟩ := Cert.Pre_finite.arrays_real _ _ _ _ _ _ _ _ _ _ _ _ _ _ _ _ _ _ _ _ _ (hpre c)
      rw [← a2] at h2
      rw [← a3] at h3
      rw [← a4] at h4
      rw [← a5] at h5
      rw [← a16] at h16
      rw [← a17] at h17
      rw [← a18] at h18
      rw [← a20] at h20
      refine (Cert.ReferenceIdeal.Value.reference_users _ h2 h3 h4 h5 h16 h17 h18 h20).trans (Eq.trans ?_ (Cert.KernelIdeal.Run.kernel_users m g c).symm)
      rw [← a0, ← a1, ← a2, ← a3, ← a4, ← a5, ← a6, ← a7, ← a8, ← a9, ← a10, ← a11, ← a12, ← a13, ← a14, ← a15, ← a16, ← a17, ← a20]
    · obtain ⟨a0, a1, a2, a3, a4, a5, a6, a7, a8, a9, a10, a11, a12, a13, a14, a15, a16, a17, a18, a19, a20⟩ := hagree c
      obtain ⟨h2, h3, h4, h5, h16, h17, h18, h20⟩ := Cert.Pre_finite.arrays_real _ _ _ _ _ _ _ _ _ _ _ _ _ _ _ _ _ _ _ _ _ (hpre c)
      rw [← a4] at h4
      rw [← a5] at h5
      rw [← a16] at h16
      rw [← a18] at h18
      rw [← a20] at h20
      refine (Cert.ReferenceIdeal.Value.reference_items _ h4 h5 h16 h18 h20).trans (Eq.trans ?_ (Cert.KernelIdeal.Run.kernel_items m g c).symm)
      rw [← a0, ← a1, ← a4, ← a5, ← a6, ← a7, ← a8, ← a9, ← a10, ← a11, ← a12, ← a13, ← a14, ← a15, ← a16, ← a17, ← a20]

end Cert.Proof

end
-- ==== Proof.lean ====
/- The claim, put together from the modules that prove its parts. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal.Run
public import proofs.«01_k».proof.Proof.Gen.ReferenceIdeal
public import proofs.«01_k».proof.Proof.Gen.Pre_finite
public import proofs.«01_k».proof.Proof.Frames
public import proofs.«01_k».proof.Proof.Same
public import Idealize.ShloMosaic.Adequacy
public import Idealize.ShloMosaic.Init

@[expose] public section

noncomputable section

namespace Cert.Proof

open Idealize.ShloMosaic Idealize.SL.Sem Cert.Kernel

/-- The claim: the frames, that the ideal reading changed no operation, and that the ideal kernel computes the reference. -/
theorem claim : Cert.Claim := ⟨Cert.Kernel.Gen.facts, Cert.KernelIdeal.Gen.facts, Cert.ReferenceIdeal.Gen.facts, Cert.Pre_finite.Gen.facts,
  kernel_frame, ideal_frame, fun m g _ => ideal_frame m g trivial, reference_frame, fun m g _ => reference_frame m g trivial, trivial, algebraic⟩

end Cert.Proof

end
